-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.block ⟨2, ![512, 128]⟩ ⟨2, ![8192, 128]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 128]⟩ ⟨2, ![8192, 128]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 128]⟩ ⟨2, ![8192, 128]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 128]⟩ ⟨2, ![8192, 128]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S512x128 : Shape := ⟨2, ![512, 128]⟩
abbrev S_ : Shape := ⟨0, ![]⟩

class Facts : Prop where
  bcast_S_S512x128 : S_.BroadcastsInDim S512x128 (![] : Fin 0 → Fin S512x128.rank)

variable [Facts]

def fn {F : FTy → Type} [FloatOps F] (main_arg0 : FVec F S512x128 .f32) (main_arg1 : FVec F S512x128 .f32) (main_arg2 : FVec F S512x128 .f32) : IVec S512x128 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_v3 : FVec F S512x128 .f32 := Host.absf main_arg1
  let main_cst_0 : FVec F S_ .f32 := constant S_ .f32 0x7F800000#32
  let main_v4 : FVec F S512x128 .f32 := broadcastInDim S512x128 ![] bcast_S_S512x128 main_cst_0
  let main_v5 : IVec S512x128 1 := cmpf .olt main_v3 main_v4
  let main_v6 : IVec S512x128 1 := andi main_v2 main_v5
  main_v6
-- ==== Pre_finite_qk_ReferenceIdeal.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)

variable [Facts]

def fn {F : FTy → Type} [FloatOps F] (main_arg0 : FVec F S8192x128 .f32) (main_arg1 : FVec F S8192x128 .f32) (main_arg2 : FVec F S8192x128 .f32) : IVec S8192x128 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_v3 : FVec F S8192x128 .f32 := Host.absf main_arg1
  let main_cst_0 : FVec F S_ .f32 := constant S_ .f32 0x7F800000#32
  let main_v4 : FVec F S8192x128 .f32 := broadcastInDim S8192x128 ![] bcast_S_S8192x128 main_cst_0
  let main_v5 : IVec S8192x128 1 := cmpf .olt main_v3 main_v4
  let main_v6 : IVec S8192x128 1 := andi main_v2 main_v5
  main_v6
-- ==== Kernel.lean ====
abbrev S512x128 : Shape := ⟨2, ![512, 128]⟩
abbrev S16x2x512x128 : Shape := ⟨4, ![16, 2, 512, 128]⟩
abbrev S8 : Shape := ⟨1, ![8]⟩
abbrev S7 : Shape := ⟨1, ![7]⟩
abbrev S_ : Shape := ⟨0, ![]⟩
abbrev S1x1x512x128 : Shape := ⟨4, ![1, 1, 512, 128]⟩
abbrev S512x1 : Shape := ⟨2, ![512, 1]⟩
abbrev S1 : Shape := ⟨1, ![1]⟩
abbrev S1x2x512x128 : Shape := ⟨4, ![1, 2, 512, 128]⟩
abbrev S2x512x128 : Shape := ⟨3, ![2, 512, 128]⟩
abbrev S128x512 : Shape := ⟨2, ![128, 512]⟩
abbrev S512x512 : Shape := ⟨2, ![512, 512]⟩
abbrev S512 : Shape := ⟨1, ![512]⟩

abbrev nBuf : Space → Nat
  | .hbm => 4
  | .vmem => 5
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S16x2x512x128, .bf16⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 2 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_49 : BitVec 32 := 15#32
  let v65 : BitVec 1 := Scalar.cmpi .eq v2 c15_i32_49
  let c14_i32_50 : BitVec 32 := 14#32
  let c14_i32_45 : BitVec 32 := 14#32
  let v61 : BitVec 1 := Scalar.cmpi .eq v2 c14_i32_45
  let c10_i32_46 : BitVec 32 := 10#32
  let c13_i32_41 : BitVec 32 := 13#32
  let v57 : BitVec 1 := Scalar.cmpi .eq v2 c13_i32_41
  let c12_i32_42 : BitVec 32 := 12#32
  let c12_i32_37 : BitVec 32 := 12#32
  let v53 : BitVec 1 := Scalar.cmpi .eq v2 c12_i32_37
  let c8_i32_38 : BitVec 32 := 8#32
  let c11_i32_34 : BitVec 32 := 11#32
  let v49 : BitVec 1 := Scalar.cmpi .eq v2 c11_i32_34
  let c15_i32 : BitVec 32 := 15#32
  let c10_i32_30 : BitVec 32 := 10#32
  let v45 : BitVec 1 := Scalar.cmpi .eq v2 c10_i32_30
  let c6_i32_31 : BitVec 32 := 6#32
  let c9_i32_28 : BitVec 32 := 9#32
  let v41 : BitVec 1 := Scalar.cmpi .eq v2 c9_i32_28
  let c13_i32 : BitVec 32 := 13#32
  let c8_i32_24 : BitVec 32 := 8#32
  let v37 : BitVec 1 := Scalar.cmpi .eq v2 c8_i32_24
  let c4_i32_25 : BitVec 32 := 4#32
  let c7_i32_22 : BitVec 32 := 7#32
  let v33 : BitVec 1 := Scalar.cmpi .eq v2 c7_i32_22
  let c11_i32 : BitVec 32 := 11#32
  let c6_i32_18 : BitVec 32 := 6#32
  let v29 : BitVec 1 := Scalar.cmpi .eq v2 c6_i32_18
  let c2_i32_19 : BitVec 32 := 2#32
  let c5_i32_16 : BitVec 32 := 5#32
  let v25 : BitVec 1 := Scalar.cmpi .eq v2 c5_i32_16
  let c9_i32 : BitVec 32 := 9#32
  let c4_i32_12 : BitVec 32 := 4#32
  let v21 : BitVec 1 := Scalar.cmpi .eq v2 c4_i32_12
  let c0_i32_13 : BitVec 32 := 0#32
  let c3_i32_10 : BitVec 32 := 3#32
  let v17 : BitVec 1 := Scalar.cmpi .eq v2 c3_i32_10
  let c7_i32 : BitVec 32 := 7#32
  let c2_i32_6 : BitVec 32 := 2#32
  let v13 : BitVec 1 := Scalar.cmpi .eq v2 c2_i32_6
  let c1_i32_7 : BitVec 32 := 1#32
  let c1_i32_4 : BitVec 32 := 1#32
  let v9 : BitVec 1 := Scalar.cmpi .eq v2 c1_i32_4
  let c5_i32 : BitVec 32 := 5#32
  let c0_i32_1 : BitVec 32 := 0#32
  let v5 : BitVec 1 := Scalar.cmpi .eq v2 c0_i32_1
  let c3_i32 : BitVec 32 := 3#32
  let c0_i32_2 : BitVec 32 := 0#32
  let v6 : BitVec 32 := Scalar.select v5 c3_i32 c0_i32_2
  let v10 : BitVec 32 := Scalar.select v9 c5_i32 v6
  let v14 : BitVec 32 := Scalar.select v13 c1_i32_7 v10
  let v18 : BitVec 32 := Scalar.select v17 c7_i32 v14
  let v22 : BitVec 32 := Scalar.select v21 c0_i32_13 v18
  let v26 : BitVec 32 := Scalar.select v25 c9_i32 v22
  let v30 : BitVec 32 := Scalar.select v29 c2_i32_19 v26
  let v34 : BitVec 32 := Scalar.select v33 c11_i32 v30
  let v38 : BitVec 32 := Scalar.select v37 c4_i32_25 v34
  let v42 : BitVec 32 := Scalar.select v41 c13_i32 v38
  let v46 : BitVec 32 := Scalar.select v45 c6_i32_31 v42
  let v50 : BitVec 32 := Scalar.select v49 c15_i32 v46
  let v54 : BitVec 32 := Scalar.select v53 c8_i32_38 v50
  let v58 : BitVec 32 := Scalar.select v57 c12_i32_42 v54
  let v62 : BitVec 32 := Scalar.select v61 c10_i32_46 v58
  let v66 : BitVec 32 := Scalar.select v65 c14_i32_50 v62
  let c1_i32_52 : BitVec 32 := 1#32
  let v68 : BitVec 32 := Scalar.muli v66 c1_i32_52
  let v69 : BitVec 32 := Scalar.addi c0_i32_53 v68
  v69.toNat
def k0_dev2 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_47 : BitVec 32 := 15#32
  let v63 : BitVec 1 := Scalar.cmpi .eq v2 c15_i32_47
  let c11_i32_48 : BitVec 32 := 11#32
  let c14_i32_43 : BitVec 32 := 14#32
  let v59 : BitVec 1 := Scalar.cmpi .eq v2 c14_i32_43
  let c15_i32_44 : BitVec 32 := 15#32
  let c13_i32_39 : BitVec 32 := 13#32
  let v55 : BitVec 1 := Scalar.cmpi .eq v2 c13_i32_39
  let c9_i32_40 : BitVec 32 := 9#32
  let c12_i32_35 : BitVec 32 := 12#32
  let v51 : BitVec 1 := Scalar.cmpi .eq v2 c12_i32_35
  let c13_i32_36 : BitVec 32 := 13#32
  let c11_i32_32 : BitVec 32 := 11#32
  let v47 : BitVec 1 := Scalar.cmpi .eq v2 c11_i32_32
  let c7_i32_33 : BitVec 32 := 7#32
  let c10_i32_29 : BitVec 32 := 10#32
  let v43 : BitVec 1 := Scalar.cmpi .eq v2 c10_i32_29
  let c14_i32 : BitVec 32 := 14#32
  let c9_i32_26 : BitVec 32 := 9#32
  let v39 : BitVec 1 := Scalar.cmpi .eq v2 c9_i32_26
  let c5_i32_27 : BitVec 32 := 5#32
  let c8_i32_23 : BitVec 32 := 8#32
  let v35 : BitVec 1 := Scalar.cmpi .eq v2 c8_i32_23
  let c12_i32 : BitVec 32 := 12#32
  let c7_i32_20 : BitVec 32 := 7#32
  let v31 : BitVec 1 := Scalar.cmpi .eq v2 c7_i32_20
  let c3_i32_21 : BitVec 32 := 3#32
  let c6_i32_17 : BitVec 32 := 6#32
  let v27 : BitVec 1 := Scalar.cmpi .eq v2 c6_i32_17
  let c10_i32 : BitVec 32 := 10#32
  let c5_i32_14 : BitVec 32 := 5#32
  let v23 : BitVec 1 := Scalar.cmpi .eq v2 c5_i32_14
  let c1_i32_15 : BitVec 32 := 1#32
  let c4_i32_11 : BitVec 32 := 4#32
  let v19 : BitVec 1 := Scalar.cmpi .eq v2 c4_i32_11
  let c8_i32 : BitVec 32 := 8#32
  let c3_i32_8 : BitVec 32 := 3#32
  let v15 : BitVec 1 := Scalar.cmpi .eq v2 c3_i32_8
  let c0_i32_9 : BitVec 32 := 0#32
  let c2_i32_5 : BitVec 32 := 2#32
  let v11 : BitVec 1 := Scalar.cmpi .eq v2 c2_i32_5
  let c6_i32 : BitVec 32 := 6#32
  let c1_i32_3 : BitVec 32 := 1#32
  let v7 : BitVec 1 := Scalar.cmpi .eq v2 c1_i32_3
  let c2_i32 : BitVec 32 := 2#32
  let c0_i32 : BitVec 32 := 0#32
  let v3 : BitVec 1 := Scalar.cmpi .eq v2 c0_i32
  let c4_i32 : BitVec 32 := 4#32
  let c0_i32_0 : BitVec 32 := 0#32
  let v4 : BitVec 32 := Scalar.select v3 c4_i32 c0_i32_0
  let v8 : BitVec 32 := Scalar.select v7 c2_i32 v4
  let v12 : BitVec 32 := Scalar.select v11 c6_i32 v8
  let v16 : BitVec 32 := Scalar.select v15 c0_i32_9 v12
  let v20 : BitVec 32 := Scalar.select v19 c8_i32 v16
  let v24 : BitVec 32 := Scalar.select v23 c1_i32_15 v20
  let v28 : BitVec 32 := Scalar.select v27 c10_i32 v24
  let v32 : BitVec 32 := Scalar.select v31 c3_i32_21 v28
  let v36 : BitVec 32 := Scalar.select v35 c12_i32 v32
  let v40 : BitVec 32 := Scalar.select v39 c5_i32_27 v36
  let v44 : BitVec 32 := Scalar.select v43 c14_i32 v40
  let v48 : BitVec 32 := Scalar.select v47 c7_i32_33 v44
  let v52 : BitVec 32 := Scalar.select v51 c13_i32_36 v48
  let v56 : BitVec 32 := Scalar.select v55 c9_i32_40 v52
  let v60 : BitVec 32 := Scalar.select v59 c15_i32_44 v56
  let v64 : BitVec 32 := Scalar.select v63 c11_i32_48 v60
  let c1_i32_55 : BitVec 32 := 1#32
  let v70 : BitVec 32 := Scalar.muli v64 c1_i32_55
  let v71 : BitVec 32 := Scalar.addi c0_i32_56 v70
  v71.toNat
def k0_dev3 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_47 : BitVec 32 := 15#32
  let v63 : BitVec 1 := Scalar.cmpi .eq v2 c15_i32_47
  let c11_i32_48 : BitVec 32 := 11#32
  let c14_i32_43 : BitVec 32 := 14#32
  let v59 : BitVec 1 := Scalar.cmpi .eq v2 c14_i32_43
  let c15_i32_44 : BitVec 32 := 15#32
  let c13_i32_39 : BitVec 32 := 13#32
  let v55 : BitVec 1 := Scalar.cmpi .eq v2 c13_i32_39
  let c9_i32_40 : BitVec 32 := 9#32
  let c12_i32_35 : BitVec 32 := 12#32
  let v51 : BitVec 1 := Scalar.cmpi .eq v2 c12_i32_35
  let c13_i32_36 : BitVec 32 := 13#32
  let c11_i32_32 : BitVec 32 := 11#32
  let v47 : BitVec 1 := Scalar.cmpi .eq v2 c11_i32_32
  let c7_i32_33 : BitVec 32 := 7#32
  let c10_i32_29 : BitVec 32 := 10#32
  let v43 : BitVec 1 := Scalar.cmpi .eq v2 c10_i32_29
  let c14_i32 : BitVec 32 := 14#32
  let c9_i32_26 : BitVec 32 := 9#32
  let v39 : BitVec 1 := Scalar.cmpi .eq v2 c9_i32_26
  let c5_i32_27 : BitVec 32 := 5#32
  let c8_i32_23 : BitVec 32 := 8#32
  let v35 : BitVec 1 := Scalar.cmpi .eq v2 c8_i32_23
  let c12_i32 : BitVec 32 := 12#32
  let c7_i32_20 : BitVec 32 := 7#32
  let v31 : BitVec 1 := Scalar.cmpi .eq v2 c7_i32_20
  let c3_i32_21 : BitVec 32 := 3#32
  let c6_i32_17 : BitVec 32 := 6#32
  let v27 : BitVec 1 := Scalar.cmpi .eq v2 c6_i32_17
  let c10_i32 : BitVec 32 := 10#32
  let c5_i32_14 : BitVec 32 := 5#32
  let v23 : BitVec 1 := Scalar.cmpi .eq v2 c5_i32_14
  let c1_i32_15 : BitVec 32 := 1#32
  let c4_i32_11 : BitVec 32 := 4#32
  let v19 : BitVec 1 := Scalar.cmpi .eq v2 c4_i32_11
  let c8_i32 : BitVec 32 := 8#32
  let c3_i32_8 : BitVec 32 := 3#32
  let v15 : BitVec 1 := Scalar.cmpi .eq v2 c3_i32_8
  let c0_i32_9 : BitVec 32 := 0#32
  let c2_i32_5 : BitVec 32 := 2#32
  let v11 : BitVec 1 := Scalar.cmpi .eq v2 c2_i32_5
  let c6_i32 : BitVec 32 := 6#32
  let c1_i32_3 : BitVec 32 := 1#32
  let v7 : BitVec 1 := Scalar.cmpi .eq v2 c1_i32_3
  let c2_i32 : BitVec 32 := 2#32
  let c0_i32 : BitVec 32 := 0#32
  let v3 : BitVec 1 := Scalar.cmpi .eq v2 c0_i32
  let c4_i32 : BitVec 32 := 4#32
  let c0_i32_0 : BitVec 32 := 0#32
  let v4 : BitVec 32 := Scalar.select v3 c4_i32 c0_i32_0
  let v8 : BitVec 32 := Scalar.select v7 c2_i32 v4
  let v12 : BitVec 32 := Scalar.select v11 c6_i32 v8
  let v16 : BitVec 32 := Scalar.select v15 c0_i32_9 v12
  let v20 : BitVec 32 := Scalar.select v19 c8_i32 v16
  let v24 : BitVec 32 := Scalar.select v23 c1_i32_15 v20
  let v28 : BitVec 32 := Scalar.select v27 c10_i32 v24
  let v32 : BitVec 32 := Scalar.select v31 c3_i32_21 v28
  let v36 : BitVec 32 := Scalar.select v35 c12_i32 v32
  let v40 : BitVec 32 := Scalar.select v39 c5_i32_27 v36
  let v44 : BitVec 32 := Scalar.select v43 c14_i32 v40
  let v48 : BitVec 32 := Scalar.select v47 c7_i32_33 v44
  let v52 : BitVec 32 := Scalar.select v51 c13_i32_36 v48
  let v56 : BitVec 32 := Scalar.select v55 c9_i32_40 v52
  let v60 : BitVec 32 := Scalar.select v59 c15_i32_44 v56
  let v64 : BitVec 32 := Scalar.select v63 c11_i32_48 v60
  let c1_i32_75 : BitVec 32 := 1#32
  let v89 : BitVec 32 := Scalar.muli v64 c1_i32_75
  let v90 : BitVec 32 := Scalar.addi c0_i32_76 v89
  v90.toNat
def k0_dev4 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_49 : BitVec 32 := 15#32
  let v65 : BitVec 1 := Scalar.cmpi .eq v2 c15_i32_49
  let c14_i32_50 : BitVec 32 := 14#32
  let c14_i32_45 : BitVec 32 := 14#32
  let v61 : BitVec 1 := Scalar.cmpi .eq v2 c14_i32_45
  let c10_i32_46 : BitVec 32 := 10#32
  let c13_i32_41 : BitVec 32 := 13#32
  let v57 : BitVec 1 := Scalar.cmpi .eq v2 c13_i32_41
  let c12_i32_42 : BitVec 32 := 12#32
  let c12_i32_37 : BitVec 32 := 12#32
  let v53 : BitVec 1 := Scalar.cmpi .eq v2 c12_i32_37
  let c8_i32_38 : BitVec 32 := 8#32
  let c11_i32_34 : BitVec 32 := 11#32
  let v49 : BitVec 1 := Scalar.cmpi .eq v2 c11_i32_34
  let c15_i32 : BitVec 32 := 15#32
  let c10_i32_30 : BitVec 32 := 10#32
  let v45 : BitVec 1 := Scalar.cmpi .eq v2 c10_i32_30
  let c6_i32_31 : BitVec 32 := 6#32
  let c9_i32_28 : BitVec 32 := 9#32
  let v41 : BitVec 1 := Scalar.cmpi .eq v2 c9_i32_28
  let c13_i32 : BitVec 32 := 13#32
  let c8_i32_24 : BitVec 32 := 8#32
  let v37 : BitVec 1 := Scalar.cmpi .eq v2 c8_i32_24
  let c4_i32_25 : BitVec 32 := 4#32
  let c7_i32_22 : BitVec 32 := 7#32
  let v33 : BitVec 1 := Scalar.cmpi .eq v2 c7_i32_22
  let c11_i32 : BitVec 32 := 11#32
  let c6_i32_18 : BitVec 32 := 6#32
  let v29 : BitVec 1 := Scalar.cmpi .eq v2 c6_i32_18
  let c2_i32_19 : BitVec 32 := 2#32
  let c5_i32_16 : BitVec 32 := 5#32
  let v25 : BitVec 1 := Scalar.cmpi .eq v2 c5_i32_16
  let c9_i32 : BitVec 32 := 9#32
  let c4_i32_12 : BitVec 32 := 4#32
  let v21 : BitVec 1 := Scalar.cmpi .eq v2 c4_i32_12
  let c0_i32_13 : BitVec 32 := 0#32
  let c3_i32_10 : BitVec 32 := 3#32
  let v17 : BitVec 1 := Scalar.cmpi .eq v2 c3_i32_10
  let c7_i32 : BitVec 32 := 7#32
  let c2_i32_6 : BitVec 32 := 2#32
  let v13 : BitVec 1 := Scalar.cmpi .eq v2 c2_i32_6
  let c1_i32_7 : BitVec 32 := 1#32
  let c1_i32_4 : BitVec 32 := 1#32
  let v9 : BitVec 1 := Scalar.cmpi .eq v2 c1_i32_4
  let c5_i32 : BitVec 32 := 5#32
  let c0_i32_1 : BitVec 32 := 0#32
  let v5 : BitVec 1 := Scalar.cmpi .eq v2 c0_i32_1
  let c3_i32 : BitVec 32 := 3#32
  let c0_i32_2 : BitVec 32 := 0#32
  let v6 : BitVec 32 := Scalar.select v5 c3_i32 c0_i32_2
  let v10 : BitVec 32 := Scalar.select v9 c5_i32 v6
  let v14 : BitVec 32 := Scalar.select v13 c1_i32_7 v10
  let v18 : BitVec 32 := Scalar.select v17 c7_i32 v14
  let v22 : BitVec 32 := Scalar.select v21 c0_i32_13 v18
  let v26 : BitVec 32 := Scalar.select v25 c9_i32 v22
  let v30 : BitVec 32 := Scalar.select v29 c2_i32_19 v26
  let v34 : BitVec 32 := Scalar.select v33 c11_i32 v30
  let v38 : BitVec 32 := Scalar.select v37 c4_i32_25 v34
  let v42 : BitVec 32 := Scalar.select v41 c13_i32 v38
  let v46 : BitVec 32 := Scalar.select v45 c6_i32_31 v42
  let v50 : BitVec 32 := Scalar.select v49 c15_i32 v46
  let v54 : BitVec 32 := Scalar.select v53 c8_i32_38 v50
  let v58 : BitVec 32 := Scalar.select v57 c12_i32_42 v54
  let v62 : BitVec 32 := Scalar.select v61 c10_i32_46 v58
  let v66 : BitVec 32 := Scalar.select v65 c14_i32_50 v62
  let c1_i32_87 : BitVec 32 := 1#32
  let v99 : BitVec 32 := Scalar.muli v66 c1_i32_87
  let v100 : BitVec 32 := Scalar.addi c0_i32_88 v99
  v100.toNat
def k0_dev5 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_47 : BitVec 32 := 15#32
  let v63 : BitVec 1 := Scalar.cmpi .eq v2 c15_i32_47
  let c11_i32_48 : BitVec 32 := 11#32
  let c14_i32_43 : BitVec 32 := 14#32
  let v59 : BitVec 1 := Scalar.cmpi .eq v2 c14_i32_43
  let c15_i32_44 : BitVec 32 := 15#32
  let c13_i32_39 : BitVec 32 := 13#32
  let v55 : BitVec 1 := Scalar.cmpi .eq v2 c13_i32_39
  let c9_i32_40 : BitVec 32 := 9#32
  let c12_i32_35 : BitVec 32 := 12#32
  let v51 : BitVec 1 := Scalar.cmpi .eq v2 c12_i32_35
  let c13_i32_36 : BitVec 32 := 13#32
  let c11_i32_32 : BitVec 32 := 11#32
  let v47 : BitVec 1 := Scalar.cmpi .eq v2 c11_i32_32
  let c7_i32_33 : BitVec 32 := 7#32
  let c10_i32_29 : BitVec 32 := 10#32
  let v43 : BitVec 1 := Scalar.cmpi .eq v2 c10_i32_29
  let c14_i32 : BitVec 32 := 14#32
  let c9_i32_26 : BitVec 32 := 9#32
  let v39 : BitVec 1 := Scalar.cmpi .eq v2 c9_i32_26
  let c5_i32_27 : BitVec 32 := 5#32
  let c8_i32_23 : BitVec 32 := 8#32
  let v35 : BitVec 1 := Scalar.cmpi .eq v2 c8_i32_23
  let c12_i32 : BitVec 32 := 12#32
  let c7_i32_20 : BitVec 32 := 7#32
  let v31 : BitVec 1 := Scalar.cmpi .eq v2 c7_i32_20
  let c3_i32_21 : BitVec 32 := 3#32
  let c6_i32_17 : BitVec 32 := 6#32
  let v27 : BitVec 1 := Scalar.cmpi .eq v2 c6_i32_17
  let c10_i32 : BitVec 32 := 10#32
  let c5_i32_14 : BitVec 32 := 5#32
  let v23 : BitVec 1 := Scalar.cmpi .eq v2 c5_i32_14
  let c1_i32_15 : BitVec 32 := 1#32
  let c4_i32_11 : BitVec 32 := 4#32
  let v19 : BitVec 1 := Scalar.cmpi .eq v2 c4_i32_11
  let c8_i32 : BitVec 32 := 8#32
  let c3_i32_8 : BitVec 32 := 3#32
  let v15 : BitVec 1 := Scalar.cmpi .eq v2 c3_i32_8
  let c0_i32_9 : BitVec 32 := 0#32
  let c2_i32_5 : BitVec 32 := 2#32
  let v11 : BitVec 1 := Scalar.cmpi .eq v2 c2_i32_5
  let c6_i32 : BitVec 32 := 6#32
  let c1_i32_3 : BitVec 32 := 1#32
  let v7 : BitVec 1 := Scalar.cmpi .eq v2 c1_i32_3
  let c2_i32 : BitVec 32 := 2#32
  let c0_i32 : BitVec 32 := 0#32
  let v3 : BitVec 1 := Scalar.cmpi .eq v2 c0_i32
  let c4_i32 : BitVec 32 := 4#32
  let c0_i32_0 : BitVec 32 := 0#32
  let v4 : BitVec 32 := Scalar.select v3 c4_i32 c0_i32_0
  let v8 : BitVec 32 := Scalar.select v7 c2_i32 v4
  let v12 : BitVec 32 := Scalar.select v11 c6_i32 v8
  let v16 : BitVec 32 := Scalar.select v15 c0_i32_9 v12
  let v20 : BitVec 32 := Scalar.select v19 c8_i32 v16
  let v24 : BitVec 32 := Scalar.select v23 c1_i32_15 v20
  let v28 : BitVec 32 := Scalar.select v27 c10_i32 v24
  let v32 : BitVec 32 := Scalar.select v31 c3_i32_21 v28
  let v36 : BitVec 32 := Scalar.select v35 c12_i32 v32
  let v40 : BitVec 32 := Scalar.select v39 c5_i32_27 v36
  let v44 : BitVec 32 := Scalar.select v43 c14_i32 v40
  let v48 : BitVec 32 := Scalar.select v47 c7_i32_33 v44
  let v52 : BitVec 32 := Scalar.select v51 c13_i32_36 v48
  let v56 : BitVec 32 := Scalar.select v55 c9_i32_40 v52
  let v60 : BitVec 32 := Scalar.select v59 c15_i32_44 v56
  let v64 : BitVec 32 := Scalar.select v63 c11_i32_48 v60
  let c1_i32_158 : BitVec 32 := 1#32
  let v154 : BitVec 32 := Scalar.muli v64 c1_i32_158
  let v155 : BitVec 32 := Scalar.addi c0_i32_159 v154
  v155.toNat
def k0_dev6 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_49 : BitVec 32 := 15#32
  let v65 : BitVec 1 := Scalar.cmpi .eq v2 c15_i32_49
  let c14_i32_50 : BitVec 32 := 14#32
  let c14_i32_45 : BitVec 32 := 14#32
  let v61 : BitVec 1 := Scalar.cmpi .eq v2 c14_i32_45
  let c10_i32_46 : BitVec 32 := 10#32
  let c13_i32_41 : BitVec 32 := 13#32
  let v57 : BitVec 1 := Scalar.cmpi .eq v2 c13_i32_41
  let c12_i32_42 : BitVec 32 := 12#32
  let c12_i32_37 : BitVec 32 := 12#32
  let v53 : BitVec 1 := Scalar.cmpi .eq v2 c12_i32_37
  let c8_i32_38 : BitVec 32 := 8#32
  let c11_i32_34 : BitVec 32 := 11#32
  let v49 : BitVec 1 := Scalar.cmpi .eq v2 c11_i32_34
  let c15_i32 : BitVec 32 := 15#32
  let c10_i32_30 : BitVec 32 := 10#32
  let v45 : BitVec 1 := Scalar.cmpi .eq v2 c10_i32_30
  let c6_i32_31 : BitVec 32 := 6#32
  let c9_i32_28 : BitVec 32 := 9#32
  let v41 : BitVec 1 := Scalar.cmpi .eq v2 c9_i32_28
  let c13_i32 : BitVec 32 := 13#32
  let c8_i32_24 : BitVec 32 := 8#32
  let v37 : BitVec 1 := Scalar.cmpi .eq v2 c8_i32_24
  let c4_i32_25 : BitVec 32 := 4#32
  let c7_i32_22 : BitVec 32 := 7#32
  let v33 : BitVec 1 := Scalar.cmpi .eq v2 c7_i32_22
  let c11_i32 : BitVec 32 := 11#32
  let c6_i32_18 : BitVec 32 := 6#32
  let v29 : BitVec 1 := Scalar.cmpi .eq v2 c6_i32_18
  let c2_i32_19 : BitVec 32 := 2#32
  let c5_i32_16 : BitVec 32 := 5#32
  let v25 : BitVec 1 := Scalar.cmpi .eq v2 c5_i32_16
  let c9_i32 : BitVec 32 := 9#32
  let c4_i32_12 : BitVec 32 := 4#32
  let v21 : BitVec 1 := Scalar.cmpi .eq v2 c4_i32_12
  let c0_i32_13 : BitVec 32 := 0#32
  let c3_i32_10 : BitVec 32 := 3#32
  let v17 : BitVec 1 := Scalar.cmpi .eq v2 c3_i32_10
  let c7_i32 : BitVec 32 := 7#32
  let c2_i32_6 : BitVec 32 := 2#32
  let v13 : BitVec 1 := Scalar.cmpi .eq v2 c2_i32_6
  let c1_i32_7 : BitVec 32 := 1#32
  let c1_i32_4 : BitVec 32 := 1#32
  let v9 : BitVec 1 := Scalar.cmpi .eq v2 c1_i32_4
  let c5_i32 : BitVec 32 := 5#32
  let c0_i32_1 : BitVec 32 := 0#32
  let v5 : BitVec 1 := Scalar.cmpi .eq v2 c0_i32_1
  let c3_i32 : BitVec 32 := 3#32
  let c0_i32_2 : BitVec 32 := 0#32
  let v6 : BitVec 32 := Scalar.select v5 c3_i32 c0_i32_2
  let v10 : BitVec 32 := Scalar.select v9 c5_i32 v6
  let v14 : BitVec 32 := Scalar.select v13 c1_i32_7 v10
  let v18 : BitVec 32 := Scalar.select v17 c7_i32 v14
  let v22 : BitVec 32 := Scalar.select v21 c0_i32_13 v18
  let v26 : BitVec 32 := Scalar.select v25 c9_i32 v22
  let v30 : BitVec 32 := Scalar.select v29 c2_i32_19 v26
  let v34 : BitVec 32 := Scalar.select v33 c11_i32 v30
  let v38 : BitVec 32 := Scalar.select v37 c4_i32_25 v34
  let v42 : BitVec 32 := Scalar.select v41 c13_i32 v38
  let v46 : BitVec 32 := Scalar.select v45 c6_i32_31 v42
  let v50 : BitVec 32 := Scalar.select v49 c15_i32 v46
  let v54 : BitVec 32 := Scalar.select v53 c8_i32_38 v50
  let v58 : BitVec 32 := Scalar.select v57 c12_i32_42 v54
  let v62 : BitVec 32 := Scalar.select v61 c10_i32_46 v58
  let v66 : BitVec 32 := Scalar.select v65 c14_i32_50 v62
  let c1_i32_170 : BitVec 32 := 1#32
  let v164 : BitVec 32 := Scalar.muli v66 c1_i32_170
  let v165 : BitVec 32 := Scalar.addi c0_i32_171 v164
  v165.toNat
def k0_dev7 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_47 : BitVec 32 := 15#32
  let v63 : BitVec 1 := Scalar.cmpi .eq v2 c15_i32_47
  let c11_i32_48 : BitVec 32 := 11#32
  let c14_i32_43 : BitVec 32 := 14#32
  let v59 : BitVec 1 := Scalar.cmpi .eq v2 c14_i32_43
  let c15_i32_44 : BitVec 32 := 15#32
  let c13_i32_39 : BitVec 32 := 13#32
  let v55 : BitVec 1 := Scalar.cmpi .eq v2 c13_i32_39
  let c9_i32_40 : BitVec 32 := 9#32
  let c12_i32_35 : BitVec 32 := 12#32
  let v51 : BitVec 1 := Scalar.cmpi .eq v2 c12_i32_35
  let c13_i32_36 : BitVec 32 := 13#32
  let c11_i32_32 : BitVec 32 := 11#32
  let v47 : BitVec 1 := Scalar.cmpi .eq v2 c11_i32_32
  let c7_i32_33 : BitVec 32 := 7#32
  let c10_i32_29 : BitVec 32 := 10#32
  let v43 : BitVec 1 := Scalar.cmpi .eq v2 c10_i32_29
  let c14_i32 : BitVec 32 := 14#32
  let c9_i32_26 : BitVec 32 := 9#32
  let v39 : BitVec 1 := Scalar.cmpi .eq v2 c9_i32_26
  let c5_i32_27 : BitVec 32 := 5#32
  let c8_i32_23 : BitVec 32 := 8#32
  let v35 : BitVec 1 := Scalar.cmpi .eq v2 c8_i32_23
  let c12_i32 : BitVec 32 := 12#32
  let c7_i32_20 : BitVec 32 := 7#32
  let v31 : BitVec 1 := Scalar.cmpi .eq v2 c7_i32_20
  let c3_i32_21 : BitVec 32 := 3#32
  let c6_i32_17 : BitVec 32 := 6#32
  let v27 : BitVec 1 := Scalar.cmpi .eq v2 c6_i32_17
  let c10_i32 : BitVec 32 := 10#32
  let c5_i32_14 : BitVec 32 := 5#32
  let v23 : BitVec 1 := Scalar.cmpi .eq v2 c5_i32_14
  let c1_i32_15 : BitVec 32 := 1#32
  let c4_i32_11 : BitVec 32 := 4#32
  let v19 : BitVec 1 := Scalar.cmpi .eq v2 c4_i32_11
  let c8_i32 : BitVec 32 := 8#32
  let c3_i32_8 : BitVec 32 := 3#32
  let v15 : BitVec 1 := Scalar.cmpi .eq v2 c3_i32_8
  let c0_i32_9 : BitVec 32 := 0#32
  let c2_i32_5 : BitVec 32 := 2#32
  let v11 : BitVec 1 := Scalar.cmpi .eq v2 c2_i32_5
  let c6_i32 : BitVec 32 := 6#32
  let c1_i32_3 : BitVec 32 := 1#32
  let v7 : BitVec 1 := Scalar.cmpi .eq v2 c1_i32_3
  let c2_i32 : BitVec 32 := 2#32
  let c0_i32 : BitVec 32 := 0#32
  let v3 : BitVec 1 := Scalar.cmpi .eq v2 c0_i32
  let c4_i32 : BitVec 32 := 4#32
  let c0_i32_0 : BitVec 32 := 0#32
  let v4 : BitVec 32 := Scalar.select v3 c4_i32 c0_i32_0
  let v8 : BitVec 32 := Scalar.select v7 c2_i32 v4
  let v12 : BitVec 32 := Scalar.select v11 c6_i32 v8
  let v16 : BitVec 32 := Scalar.select v15 c0_i32_9 v12
  let v20 : BitVec 32 := Scalar.select v19 c8_i32 v16
  let v24 : BitVec 32 := Scalar.select v23 c1_i32_15 v20
  let v28 : BitVec 32 := Scalar.select v27 c10_i32 v24
  let v32 : BitVec 32 := Scalar.select v31 c3_i32_21 v28
  let v36 : BitVec 32 := Scalar.select v35 c12_i32 v32
  let v40 : BitVec 32 := Scalar.select v39 c5_i32_27 v36
  let v44 : BitVec 32 := Scalar.select v43 c14_i32 v40
  let v48 : BitVec 32 := Scalar.select v47 c7_i32_33 v44
  let v52 : BitVec 32 := Scalar.select v51 c13_i32_36 v48
  let v56 : BitVec 32 := Scalar.select v55 c9_i32_40 v52
  let v60 : BitVec 32 := Scalar.select v59 c15_i32_44 v56
  let v64 : BitVec 32 := Scalar.select v63 c11_i32_48 v60
  let c1_i32_253 : BitVec 32 := 1#32
  let v236 : BitVec 32 := Scalar.muli v64 c1_i32_253
  let v237 : BitVec 32 := Scalar.addi c0_i32_254 v236
  v237.toNat
def k0_dev8 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_49 : BitVec 32 := 15#32
  let v65 : BitVec 1 := Scalar.cmpi .eq v2 c15_i32_49
  let c14_i32_50 : BitVec 32 := 14#32
  let c14_i32_45 : BitVec 32 := 14#32
  let v61 : BitVec 1 := Scalar.cmpi .eq v2 c14_i32_45
  let c10_i32_46 : BitVec 32 := 10#32
  let c13_i32_41 : BitVec 32 := 13#32
  let v57 : BitVec 1 := Scalar.cmpi .eq v2 c13_i32_41
  let c12_i32_42 : BitVec 32 := 12#32
  let c12_i32_37 : BitVec 32 := 12#32
  let v53 : BitVec 1 := Scalar.cmpi .eq v2 c12_i32_37
  let c8_i32_38 : BitVec 32 := 8#32
  let c11_i32_34 : BitVec 32 := 11#32
  let v49 : BitVec 1 := Scalar.cmpi .eq v2 c11_i32_34
  let c15_i32 : BitVec 32 := 15#32
  let c10_i32_30 : BitVec 32 := 10#32
  let v45 : BitVec 1 := Scalar.cmpi .eq v2 c10_i32_30
  let c6_i32_31 : BitVec 32 := 6#32
  let c9_i32_28 : BitVec 32 := 9#32
  let v41 : BitVec 1 := Scalar.cmpi .eq v2 c9_i32_28
  let c13_i32 : BitVec 32 := 13#32
  let c8_i32_24 : BitVec 32 := 8#32
  let v37 : BitVec 1 := Scalar.cmpi .eq v2 c8_i32_24
  let c4_i32_25 : BitVec 32 := 4#32
  let c7_i32_22 : BitVec 32 := 7#32
  let v33 : BitVec 1 := Scalar.cmpi .eq v2 c7_i32_22
  let c11_i32 : BitVec 32 := 11#32
  let c6_i32_18 : BitVec 32 := 6#32
  let v29 : BitVec 1 := Scalar.cmpi .eq v2 c6_i32_18
  let c2_i32_19 : BitVec 32 := 2#32
  let c5_i32_16 : BitVec 32 := 5#32
  let v25 : BitVec 1 := Scalar.cmpi .eq v2 c5_i32_16
  let c9_i32 : BitVec 32 := 9#32
  let c4_i32_12 : BitVec 32 := 4#32
  let v21 : BitVec 1 := Scalar.cmpi .eq v2 c4_i32_12
  let c0_i32_13 : BitVec 32 := 0#32
  let c3_i32_10 : BitVec 32 := 3#32
  let v17 : BitVec 1 := Scalar.cmpi .eq v2 c3_i32_10
  let c7_i32 : BitVec 32 := 7#32
  let c2_i32_6 : BitVec 32 := 2#32
  let v13 : BitVec 1 := Scalar.cmpi .eq v2 c2_i32_6
  let c1_i32_7 : BitVec 32 := 1#32
  let c1_i32_4 : BitVec 32 := 1#32
  let v9 : BitVec 1 := Scalar.cmpi .eq v2 c1_i32_4
  let c5_i32 : BitVec 32 := 5#32
  let c0_i32_1 : BitVec 32 := 0#32
  let v5 : BitVec 1 := Scalar.cmpi .eq v2 c0_i32_1
  let c3_i32 : BitVec 32 := 3#32
  let c0_i32_2 : BitVec 32 := 0#32
  let v6 : BitVec 32 := Scalar.select v5 c3_i32 c0_i32_2
  let v10 : BitVec 32 := Scalar.select v9 c5_i32 v6
  let v14 : BitVec 32 := Scalar.select v13 c1_i32_7 v10
  let v18 : BitVec 32 := Scalar.select v17 c7_i32 v14
  let v22 : BitVec 32 := Scalar.select v21 c0_i32_13 v18
  let v26 : BitVec 32 := Scalar.select v25 c9_i32 v22
  let v30 : BitVec 32 := Scalar.select v29 c2_i32_19 v26
  let v34 : BitVec 32 := Scalar.select v33 c11_i32 v30
  let v38 : BitVec 32 := Scalar.select v37 c4_i32_25 v34
  let v42 : BitVec 32 := Scalar.select v41 c13_i32 v38
  let v46 : BitVec 32 := Scalar.select v45 c6_i32_31 v42
  let v50 : BitVec 32 := Scalar.select v49 c15_i32 v46
  let v54 : BitVec 32 := Scalar.select v53 c8_i32_38 v50
  let v58 : BitVec 32 := Scalar.select v57 c12_i32_42 v54
  let v62 : BitVec 32 := Scalar.select v61 c10_i32_46 v58
  let v66 : BitVec 32 := Scalar.select v65 c14_i32_50 v62
  let c1_i32_265 : BitVec 32 := 1#32
  let v246 : BitVec 32 := Scalar.muli v66 c1_i32_265
  let v247 : BitVec 32 := Scalar.addi c0_i32_266 v246
  v247.toNat
def k0_dev9 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_47 : BitVec 32 := 15#32
  let v63 : BitVec 1 := Scalar.cmpi .eq v2 c15_i32_47
  let c11_i32_48 : BitVec 32 := 11#32
  let c14_i32_43 : BitVec 32 := 14#32
  let v59 : BitVec 1 := Scalar.cmpi .eq v2 c14_i32_43
  let c15_i32_44 : BitVec 32 := 15#32
  let c13_i32_39 : BitVec 32 := 13#32
  let v55 : BitVec 1 := Scalar.cmpi .eq v2 c13_i32_39
  let c9_i32_40 : BitVec 32 := 9#32
  let c12_i32_35 : BitVec 32 := 12#32
  let v51 : BitVec 1 := Scalar.cmpi .eq v2 c12_i32_35
  let c13_i32_36 : BitVec 32 := 13#32
  let c11_i32_32 : BitVec 32 := 11#32
  let v47 : BitVec 1 := Scalar.cmpi .eq v2 c11_i32_32
  let c7_i32_33 : BitVec 32 := 7#32
  let c10_i32_29 : BitVec 32 := 10#32
  let v43 : BitVec 1 := Scalar.cmpi .eq v2 c10_i32_29
  let c14_i32 : BitVec 32 := 14#32
  let c9_i32_26 : BitVec 32 := 9#32
  let v39 : BitVec 1 := Scalar.cmpi .eq v2 c9_i32_26
  let c5_i32_27 : BitVec 32 := 5#32
  let c8_i32_23 : BitVec 32 := 8#32
  let v35 : BitVec 1 := Scalar.cmpi .eq v2 c8_i32_23
  let c12_i32 : BitVec 32 := 12#32
  let c7_i32_20 : BitVec 32 := 7#32
  let v31 : BitVec 1 := Scalar.cmpi .eq v2 c7_i32_20
  let c3_i32_21 : BitVec 32 := 3#32
  let c6_i32_17 : BitVec 32 := 6#32
  let v27 : BitVec 1 := Scalar.cmpi .eq v2 c6_i32_17
  let c10_i32 : BitVec 32 := 10#32
  let c5_i32_14 : BitVec 32 := 5#32
  let v23 : BitVec 1 := Scalar.cmpi .eq v2 c5_i32_14
  let c1_i32_15 : BitVec 32 := 1#32
  let c4_i32_11 : BitVec 32 := 4#32
  let v19 : BitVec 1 := Scalar.cmpi .eq v2 c4_i32_11
  let c8_i32 : BitVec 32 := 8#32
  let c3_i32_8 : BitVec 32 := 3#32
  let v15 : BitVec 1 := Scalar.cmpi .eq v2 c3_i32_8
  let c0_i32_9 : BitVec 32 := 0#32
  let c2_i32_5 : BitVec 32 := 2#32
  let v11 : BitVec 1 := Scalar.cmpi .eq v2 c2_i32_5
  let c6_i32 : BitVec 32 := 6#32
  let c1_i32_3 : BitVec 32 := 1#32
  let v7 : BitVec 1 := Scalar.cmpi .eq v2 c1_i32_3
  let c2_i32 : BitVec 32 := 2#32
  let c0_i32 : BitVec 32 := 0#32
  let v3 : BitVec 1 := Scalar.cmpi .eq v2 c0_i32
  let c4_i32 : BitVec 32 := 4#32
  let c0_i32_0 : BitVec 32 := 0#32
  let v4 : BitVec 32 := Scalar.select v3 c4_i32 c0_i32_0
  let v8 : BitVec 32 := Scalar.select v7 c2_i32 v4
  let v12 : BitVec 32 := Scalar.select v11 c6_i32 v8
  let v16 : BitVec 32 := Scalar.select v15 c0_i32_9 v12
  let v20 : BitVec 32 := Scalar.select v19 c8_i32 v16
  let v24 : BitVec 32 := Scalar.select v23 c1_i32_15 v20
  let v28 : BitVec 32 := Scalar.select v27 c10_i32 v24
  let v32 : BitVec 32 := Scalar.select v31 c3_i32_21 v28
  let v36 : BitVec 32 := Scalar.select v35 c12_i32 v32
  let v40 : BitVec 32 := Scalar.select v39 c5_i32_27 v36
  let v44 : BitVec 32 := Scalar.select v43 c14_i32 v40
  let v48 : BitVec 32 := Scalar.select v47 c7_i32_33 v44
  let v52 : BitVec 32 := Scalar.select v51 c13_i32_36 v48
  let v56 : BitVec 32 := Scalar.select v55 c9_i32_40 v52
  let v60 : BitVec 32 := Scalar.select v59 c15_i32_44 v56
  let v64 : BitVec 32 := Scalar.select v63 c11_i32_48 v60
  let c1_i32_347 : BitVec 32 := 1#32
  let v318 : BitVec 32 := Scalar.muli v64 c1_i32_347
  let v319 : BitVec 32 := Scalar.addi c0_i32_348 v318
  v319.toNat
def k0_dev10 (d0 : Dev nD) : Nat :=
  let c0_i32_360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_49 : BitVec 32 := 15#32
  let v65 : BitVec 1 := Scalar.cmpi .eq v2 c15_i32_49
  let c14_i32_50 : BitVec 32 := 14#32
  let c14_i32_45 : BitVec 32 := 14#32
  let v61 : BitVec 1 := Scalar.cmpi .eq v2 c14_i32_45
  let c10_i32_46 : BitVec 32 := 10#32
  let c13_i32_41 : BitVec 32 := 13#32
  let v57 : BitVec 1 := Scalar.cmpi .eq v2 c13_i32_41
  let c12_i32_42 : BitVec 32 := 12#32
  let c12_i32_37 : BitVec 32 := 12#32
  let v53 : BitVec 1 := Scalar.cmpi .eq v2 c12_i32_37
  let c8_i32_38 : BitVec 32 := 8#32
  let c11_i32_34 : BitVec 32 := 11#32
  let v49 : BitVec 1 := Scalar.cmpi .eq v2 c11_i32_34
  let c15_i32 : BitVec 32 := 15#32
  let c10_i32_30 : BitVec 32 := 10#32
  let v45 : BitVec 1 := Scalar.cmpi .eq v2 c10_i32_30
  let c6_i32_31 : BitVec 32 := 6#32
  let c9_i32_28 : BitVec 32 := 9#32
  let v41 : BitVec 1 := Scalar.cmpi .eq v2 c9_i32_28
  let c13_i32 : BitVec 32 := 13#32
  let c8_i32_24 : BitVec 32 := 8#32
  let v37 : BitVec 1 := Scalar.cmpi .eq v2 c8_i32_24
  let c4_i32_25 : BitVec 32 := 4#32
  let c7_i32_22 : BitVec 32 := 7#32
  let v33 : BitVec 1 := Scalar.cmpi .eq v2 c7_i32_22
  let c11_i32 : BitVec 32 := 11#32
  let c6_i32_18 : BitVec 32 := 6#32
  let v29 : BitVec 1 := Scalar.cmpi .eq v2 c6_i32_18
  let c2_i32_19 : BitVec 32 := 2#32
  let c5_i32_16 : BitVec 32 := 5#32
  let v25 : BitVec 1 := Scalar.cmpi .eq v2 c5_i32_16
  let c9_i32 : BitVec 32 := 9#32
  let c4_i32_12 : BitVec 32 := 4#32
  let v21 : BitVec 1 := Scalar.cmpi .eq v2 c4_i32_12
  let c0_i32_13 : BitVec 32 := 0#32
  let c3_i32_10 : BitVec 32 := 3#32
  let v17 : BitVec 1 := Scalar.cmpi .eq v2 c3_i32_10
  let c7_i32 : BitVec 32 := 7#32
  let c2_i32_6 : BitVec 32 := 2#32
  let v13 : BitVec 1 := Scalar.cmpi .eq v2 c2_i32_6
  let c1_i32_7 : BitVec 32 := 1#32
  let c1_i32_4 : BitVec 32 := 1#32
  let v9 : BitVec 1 := Scalar.cmpi .eq v2 c1_i32_4
  let c5_i32 : BitVec 32 := 5#32
  let c0_i32_1 : BitVec 32 := 0#32
  let v5 : BitVec 1 := Scalar.cmpi .eq v2 c0_i32_1
  let c3_i32 : BitVec 32 := 3#32
  let c0_i32_2 : BitVec 32 := 0#32
  let v6 : BitVec 32 := Scalar.select v5 c3_i32 c0_i32_2
  let v10 : BitVec 32 := Scalar.select v9 c5_i32 v6
  let v14 : BitVec 32 := Scalar.select v13 c1_i32_7 v10
  let v18 : BitVec 32 := Scalar.select v17 c7_i32 v14
  let v22 : BitVec 32 := Scalar.select v21 c0_i32_13 v18
  let v26 : BitVec 32 := Scalar.select v25 c9_i32 v22
  let v30 : BitVec 32 := Scalar.select v29 c2_i32_19 v26
  let v34 : BitVec 32 := Scalar.select v33 c11_i32 v30
  let v38 : BitVec 32 := Scalar.select v37 c4_i32_25 v34
  let v42 : BitVec 32 := Scalar.select v41 c13_i32 v38
  let v46 : BitVec 32 := Scalar.select v45 c6_i32_31 v42
  let v50 : BitVec 32 := Scalar.select v49 c15_i32 v46
  let v54 : BitVec 32 := Scalar.select v53 c8_i32_38 v50
  let v58 : BitVec 32 := Scalar.select v57 c12_i32_42 v54
  let v62 : BitVec 32 := Scalar.select v61 c10_i32_46 v58
  let v66 : BitVec 32 := Scalar.select v65 c14_i32_50 v62
  let c1_i32_359 : BitVec 32 := 1#32
  let v328 : BitVec 32 := Scalar.muli v66 c1_i32_359
  let v329 : BitVec 32 := Scalar.addi c0_i32_360 v328
  v329.toNat
def k0_dev11 (d0 : Dev nD) : Nat :=
  let c0_i32_442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_47 : BitVec 32 := 15#32
  let v63 : BitVec 1 := Scalar.cmpi .eq v2 c15_i32_47
  let c11_i32_48 : BitVec 32 := 11#32
  let c14_i32_43 : BitVec 32 := 14#32
  let v59 : BitVec 1 := Scalar.cmpi .eq v2 c14_i32_43
  let c15_i32_44 : BitVec 32 := 15#32
  let c13_i32_39 : BitVec 32 := 13#32
  let v55 : BitVec 1 := Scalar.cmpi .eq v2 c13_i32_39
  let c9_i32_40 : BitVec 32 := 9#32
  let c12_i32_35 : BitVec 32 := 12#32
  let v51 : BitVec 1 := Scalar.cmpi .eq v2 c12_i32_35
  let c13_i32_36 : BitVec 32 := 13#32
  let c11_i32_32 : BitVec 32 := 11#32
  let v47 : BitVec 1 := Scalar.cmpi .eq v2 c11_i32_32
  let c7_i32_33 : BitVec 32 := 7#32
  let c10_i32_29 : BitVec 32 := 10#32
  let v43 : BitVec 1 := Scalar.cmpi .eq v2 c10_i32_29
  let c14_i32 : BitVec 32 := 14#32
  let c9_i32_26 : BitVec 32 := 9#32
  let v39 : BitVec 1 := Scalar.cmpi .eq v2 c9_i32_26
  let c5_i32_27 : BitVec 32 := 5#32
  let c8_i32_23 : BitVec 32 := 8#32
  let v35 : BitVec 1 := Scalar.cmpi .eq v2 c8_i32_23
  let c12_i32 : BitVec 32 := 12#32
  let c7_i32_20 : BitVec 32 := 7#32
  let v31 : BitVec 1 := Scalar.cmpi .eq v2 c7_i32_20
  let c3_i32_21 : BitVec 32 := 3#32
  let c6_i32_17 : BitVec 32 := 6#32
  let v27 : BitVec 1 := Scalar.cmpi .eq v2 c6_i32_17
  let c10_i32 : BitVec 32 := 10#32
  let c5_i32_14 : BitVec 32 := 5#32
  let v23 : BitVec 1 := Scalar.cmpi .eq v2 c5_i32_14
  let c1_i32_15 : BitVec 32 := 1#32
  let c4_i32_11 : BitVec 32 := 4#32
  let v19 : BitVec 1 := Scalar.cmpi .eq v2 c4_i32_11
  let c8_i32 : BitVec 32 := 8#32
  let c3_i32_8 : BitVec 32 := 3#32
  let v15 : BitVec 1 := Scalar.cmpi .eq v2 c3_i32_8
  let c0_i32_9 : BitVec 32 := 0#32
  let c2_i32_5 : BitVec 32 := 2#32
  let v11 : BitVec 1 := Scalar.cmpi .eq v2 c2_i32_5
  let c6_i32 : BitVec 32 := 6#32
  let c1_i32_3 : BitVec 32 := 1#32
  let v7 : BitVec 1 := Scalar.cmpi .eq v2 c1_i32_3
  let c2_i32 : BitVec 32 := 2#32
  let c0_i32 : BitVec 32 := 0#32
  let v3 : BitVec 1 := Scalar.cmpi .eq v2 c0_i32
  let c4_i32 : BitVec 32 := 4#32
  let c0_i32_0 : BitVec 32 := 0#32
  let v4 : BitVec 32 := Scalar.select v3 c4_i32 c0_i32_0
  let v8 : BitVec 32 := Scalar.select v7 c2_i32 v4
  let v12 : BitVec 32 := Scalar.select v11 c6_i32 v8
  let v16 : BitVec 32 := Scalar.select v15 c0_i32_9 v12
  let v20 : BitVec 32 := Scalar.select v19 c8_i32 v16
  let v24 : BitVec 32 := Scalar.select v23 c1_i32_15 v20
  let v28 : BitVec 32 := Scalar.select v27 c10_i32 v24
  let v32 : BitVec 32 := Scalar.select v31 c3_i32_21 v28
  let v36 : BitVec 32 := Scalar.select v35 c12_i32 v32
  let v40 : BitVec 32 := Scalar.select v39 c5_i32_27 v36
  let v44 : BitVec 32 := Scalar.select v43 c14_i32 v40
  let v48 : BitVec 32 := Scalar.select v47 c7_i32_33 v44
  let v52 : BitVec 32 := Scalar.select v51 c13_i32_36 v48
  let v56 : BitVec 32 := Scalar.select v55 c9_i32_40 v52
  let v60 : BitVec 32 := Scalar.select v59 c15_i32_44 v56
  let v64 : BitVec 32 := Scalar.select v63 c11_i32_48 v60
  let c1_i32_441 : BitVec 32 := 1#32
  let v400 : BitVec 32 := Scalar.muli v64 c1_i32_441
  let v401 : BitVec 32 := Scalar.addi c0_i32_442 v400
  v401.toNat
def k0_dev12 (d0 : Dev nD) : Nat :=
  let c0_i32_454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_49 : BitVec 32 := 15#32
  let v65 : BitVec 1 := Scalar.cmpi .eq v2 c15_i32_49
  let c14_i32_50 : BitVec 32 := 14#32
  let c14_i32_45 : BitVec 32 := 14#32
  let v61 : BitVec 1 := Scalar.cmpi .eq v2 c14_i32_45
  let c10_i32_46 : BitVec 32 := 10#32
  let c13_i32_41 : BitVec 32 := 13#32
  let v57 : BitVec 1 := Scalar.cmpi .eq v2 c13_i32_41
  let c12_i32_42 : BitVec 32 := 12#32
  let c12_i32_37 : BitVec 32 := 12#32
  let v53 : BitVec 1 := Scalar.cmpi .eq v2 c12_i32_37
  let c8_i32_38 : BitVec 32 := 8#32
  let c11_i32_34 : BitVec 32 := 11#32
  let v49 : BitVec 1 := Scalar.cmpi .eq v2 c11_i32_34
  let c15_i32 : BitVec 32 := 15#32
  let c10_i32_30 : BitVec 32 := 10#32
  let v45 : BitVec 1 := Scalar.cmpi .eq v2 c10_i32_30
  let c6_i32_31 : BitVec 32 := 6#32
  let c9_i32_28 : BitVec 32 := 9#32
  let v41 : BitVec 1 := Scalar.cmpi .eq v2 c9_i32_28
  let c13_i32 : BitVec 32 := 13#32
  let c8_i32_24 : BitVec 32 := 8#32
  let v37 : BitVec 1 := Scalar.cmpi .eq v2 c8_i32_24
  let c4_i32_25 : BitVec 32 := 4#32
  let c7_i32_22 : BitVec 32 := 7#32
  let v33 : BitVec 1 := Scalar.cmpi .eq v2 c7_i32_22
  let c11_i32 : BitVec 32 := 11#32
  let c6_i32_18 : BitVec 32 := 6#32
  let v29 : BitVec 1 := Scalar.cmpi .eq v2 c6_i32_18
  let c2_i32_19 : BitVec 32 := 2#32
  let c5_i32_16 : BitVec 32 := 5#32
  let v25 : BitVec 1 := Scalar.cmpi .eq v2 c5_i32_16
  let c9_i32 : BitVec 32 := 9#32
  let c4_i32_12 : BitVec 32 := 4#32
  let v21 : BitVec 1 := Scalar.cmpi .eq v2 c4_i32_12
  let c0_i32_13 : BitVec 32 := 0#32
  let c3_i32_10 : BitVec 32 := 3#32
  let v17 : BitVec 1 := Scalar.cmpi .eq v2 c3_i32_10
  let c7_i32 : BitVec 32 := 7#32
  let c2_i32_6 : BitVec 32 := 2#32
  let v13 : BitVec 1 := Scalar.cmpi .eq v2 c2_i32_6
  let c1_i32_7 : BitVec 32 := 1#32
  let c1_i32_4 : BitVec 32 := 1#32
  let v9 : BitVec 1 := Scalar.cmpi .eq v2 c1_i32_4
  let c5_i32 : BitVec 32 := 5#32
  let c0_i32_1 : BitVec 32 := 0#32
  let v5 : BitVec 1 := Scalar.cmpi .eq v2 c0_i32_1
  let c3_i32 : BitVec 32 := 3#32
  let c0_i32_2 : BitVec 32 := 0#32
  let v6 : BitVec 32 := Scalar.select v5 c3_i32 c0_i32_2
  let v10 : BitVec 32 := Scalar.select v9 c5_i32 v6
  let v14 : BitVec 32 := Scalar.select v13 c1_i32_7 v10
  let v18 : BitVec 32 := Scalar.select v17 c7_i32 v14
  let v22 : BitVec 32 := Scalar.select v21 c0_i32_13 v18
  let v26 : BitVec 32 := Scalar.select v25 c9_i32 v22
  let v30 : BitVec 32 := Scalar.select v29 c2_i32_19 v26
  let v34 : BitVec 32 := Scalar.select v33 c11_i32 v30
  let v38 : BitVec 32 := Scalar.select v37 c4_i32_25 v34
  let v42 : BitVec 32 := Scalar.select v41 c13_i32 v38
  let v46 : BitVec 32 := Scalar.select v45 c6_i32_31 v42
  let v50 : BitVec 32 := Scalar.select v49 c15_i32 v46
  let v54 : BitVec 32 := Scalar.select v53 c8_i32_38 v50
  let v58 : BitVec 32 := Scalar.select v57 c12_i32_42 v54
  let v62 : BitVec 32 := Scalar.select v61 c10_i32_46 v58
  let v66 : BitVec 32 := Scalar.select v65 c14_i32_50 v62
  let c1_i32_453 : BitVec 32 := 1#32
  let v410 : BitVec 32 := Scalar.muli v66 c1_i32_453
  let v411 : BitVec 32 := Scalar.addi c0_i32_454 v410
  v411.toNat
def k0_dev13 (d0 : Dev nD) : Nat :=
  let c0_i32_536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_47 : BitVec 32 := 15#32
  let v63 : BitVec 1 := Scalar.cmpi .eq v2 c15_i32_47
  let c11_i32_48 : BitVec 32 := 11#32
  let c14_i32_43 : BitVec 32 := 14#32
  let v59 : BitVec 1 := Scalar.cmpi .eq v2 c14_i32_43
  let c15_i32_44 : BitVec 32 := 15#32
  let c13_i32_39 : BitVec 32 := 13#32
  let v55 : BitVec 1 := Scalar.cmpi .eq v2 c13_i32_39
  let c9_i32_40 : BitVec 32 := 9#32
  let c12_i32_35 : BitVec 32 := 12#32
  let v51 : BitVec 1 := Scalar.cmpi .eq v2 c12_i32_35
  let c13_i32_36 : BitVec 32 := 13#32
  let c11_i32_32 : BitVec 32 := 11#32
  let v47 : BitVec 1 := Scalar.cmpi .eq v2 c11_i32_32
  let c7_i32_33 : BitVec 32 := 7#32
  let c10_i32_29 : BitVec 32 := 10#32
  let v43 : BitVec 1 := Scalar.cmpi .eq v2 c10_i32_29
  let c14_i32 : BitVec 32 := 14#32
  let c9_i32_26 : BitVec 32 := 9#32
  let v39 : BitVec 1 := Scalar.cmpi .eq v2 c9_i32_26
  let c5_i32_27 : BitVec 32 := 5#32
  let c8_i32_23 : BitVec 32 := 8#32
  let v35 : BitVec 1 := Scalar.cmpi .eq v2 c8_i32_23
  let c12_i32 : BitVec 32 := 12#32
  let c7_i32_20 : BitVec 32 := 7#32
  let v31 : BitVec 1 := Scalar.cmpi .eq v2 c7_i32_20
  let c3_i32_21 : BitVec 32 := 3#32
  let c6_i32_17 : BitVec 32 := 6#32
  let v27 : BitVec 1 := Scalar.cmpi .eq v2 c6_i32_17
  let c10_i32 : BitVec 32 := 10#32
  let c5_i32_14 : BitVec 32 := 5#32
  let v23 : BitVec 1 := Scalar.cmpi .eq v2 c5_i32_14
  let c1_i32_15 : BitVec 32 := 1#32
  let c4_i32_11 : BitVec 32 := 4#32
  let v19 : BitVec 1 := Scalar.cmpi .eq v2 c4_i32_11
  let c8_i32 : BitVec 32 := 8#32
  let c3_i32_8 : BitVec 32 := 3#32
  let v15 : BitVec 1 := Scalar.cmpi .eq v2 c3_i32_8
  let c0_i32_9 : BitVec 32 := 0#32
  let c2_i32_5 : BitVec 32 := 2#32
  let v11 : BitVec 1 := Scalar.cmpi .eq v2 c2_i32_5
  let c6_i32 : BitVec 32 := 6#32
  let c1_i32_3 : BitVec 32 := 1#32
  let v7 : BitVec 1 := Scalar.cmpi .eq v2 c1_i32_3
  let c2_i32 : BitVec 32 := 2#32
  let c0_i32 : BitVec 32 := 0#32
  let v3 : BitVec 1 := Scalar.cmpi .eq v2 c0_i32
  let c4_i32 : BitVec 32 := 4#32
  let c0_i32_0 : BitVec 32 := 0#32
  let v4 : BitVec 32 := Scalar.select v3 c4_i32 c0_i32_0
  let v8 : BitVec 32 := Scalar.select v7 c2_i32 v4
  let v12 : BitVec 32 := Scalar.select v11 c6_i32 v8
  let v16 : BitVec 32 := Scalar.select v15 c0_i32_9 v12
  let v20 : BitVec 32 := Scalar.select v19 c8_i32 v16
  let v24 : BitVec 32 := Scalar.select v23 c1_i32_15 v20
  let v28 : BitVec 32 := Scalar.select v27 c10_i32 v24
  let v32 : BitVec 32 := Scalar.select v31 c3_i32_21 v28
  let v36 : BitVec 32 := Scalar.select v35 c12_i32 v32
  let v40 : BitVec 32 := Scalar.select v39 c5_i32_27 v36
  let v44 : BitVec 32 := Scalar.select v43 c14_i32 v40
  let v48 : BitVec 32 := Scalar.select v47 c7_i32_33 v44
  let v52 : BitVec 32 := Scalar.select v51 c13_i32_36 v48
  let v56 : BitVec 32 := Scalar.select v55 c9_i32_40 v52
  let v60 : BitVec 32 := Scalar.select v59 c15_i32_44 v56
  let v64 : BitVec 32 := Scalar.select v63 c11_i32_48 v60
  let c1_i32_535 : BitVec 32 := 1#32
  let v482 : BitVec 32 := Scalar.muli v64 c1_i32_535
  let v483 : BitVec 32 := Scalar.addi c0_i32_536 v482
  v483.toNat
def k0_dev14 (d0 : Dev nD) : Nat :=
  let c0_i32_548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_49 : BitVec 32 := 15#32
  let v65 : BitVec 1 := Scalar.cmpi .eq v2 c15_i32_49
  let c14_i32_50 : BitVec 32 := 14#32
  let c14_i32_45 : BitVec 32 := 14#32
  let v61 : BitVec 1 := Scalar.cmpi .eq v2 c14_i32_45
  let c10_i32_46 : BitVec 32 := 10#32
  let c13_i32_41 : BitVec 32 := 13#32
  let v57 : BitVec 1 := Scalar.cmpi .eq v2 c13_i32_41
  let c12_i32_42 : BitVec 32 := 12#32
  let c12_i32_37 : BitVec 32 := 12#32
  let v53 : BitVec 1 := Scalar.cmpi .eq v2 c12_i32_37
  let c8_i32_38 : BitVec 32 := 8#32
  let c11_i32_34 : BitVec 32 := 11#32
  let v49 : BitVec 1 := Scalar.cmpi .eq v2 c11_i32_34
  let c15_i32 : BitVec 32 := 15#32
  let c10_i32_30 : BitVec 32 := 10#32
  let v45 : BitVec 1 := Scalar.cmpi .eq v2 c10_i32_30
  let c6_i32_31 : BitVec 32 := 6#32
  let c9_i32_28 : BitVec 32 := 9#32
  let v41 : BitVec 1 := Scalar.cmpi .eq v2 c9_i32_28
  let c13_i32 : BitVec 32 := 13#32
  let c8_i32_24 : BitVec 32 := 8#32
  let v37 : BitVec 1 := Scalar.cmpi .eq v2 c8_i32_24
  let c4_i32_25 : BitVec 32 := 4#32
  let c7_i32_22 : BitVec 32 := 7#32
  let v33 : BitVec 1 := Scalar.cmpi .eq v2 c7_i32_22
  let c11_i32 : BitVec 32 := 11#32
  let c6_i32_18 : BitVec 32 := 6#32
  let v29 : BitVec 1 := Scalar.cmpi .eq v2 c6_i32_18
  let c2_i32_19 : BitVec 32 := 2#32
  let c5_i32_16 : BitVec 32 := 5#32
  let v25 : BitVec 1 := Scalar.cmpi .eq v2 c5_i32_16
  let c9_i32 : BitVec 32 := 9#32
  let c4_i32_12 : BitVec 32 := 4#32
  let v21 : BitVec 1 := Scalar.cmpi .eq v2 c4_i32_12
  let c0_i32_13 : BitVec 32 := 0#32
  let c3_i32_10 : BitVec 32 := 3#32
  let v17 : BitVec 1 := Scalar.cmpi .eq v2 c3_i32_10
  let c7_i32 : BitVec 32 := 7#32
  let c2_i32_6 : BitVec 32 := 2#32
  let v13 : BitVec 1 := Scalar.cmpi .eq v2 c2_i32_6
  let c1_i32_7 : BitVec 32 := 1#32
  let c1_i32_4 : BitVec 32 := 1#32
  let v9 : BitVec 1 := Scalar.cmpi .eq v2 c1_i32_4
  let c5_i32 : BitVec 32 := 5#32
  let c0_i32_1 : BitVec 32 := 0#32
  let v5 : BitVec 1 := Scalar.cmpi .eq v2 c0_i32_1
  let c3_i32 : BitVec 32 := 3#32
  let c0_i32_2 : BitVec 32 := 0#32
  let v6 : BitVec 32 := Scalar.select v5 c3_i32 c0_i32_2
  let v10 : BitVec 32 := Scalar.select v9 c5_i32 v6
  let v14 : BitVec 32 := Scalar.select v13 c1_i32_7 v10
  let v18 : BitVec 32 := Scalar.select v17 c7_i32 v14
  let v22 : BitVec 32 := Scalar.select v21 c0_i32_13 v18
  let v26 : BitVec 32 := Scalar.select v25 c9_i32 v22
  let v30 : BitVec 32 := Scalar.select v29 c2_i32_19 v26
  let v34 : BitVec 32 := Scalar.select v33 c11_i32 v30
  let v38 : BitVec 32 := Scalar.select v37 c4_i32_25 v34
  let v42 : BitVec 32 := Scalar.select v41 c13_i32 v38
  let v46 : BitVec 32 := Scalar.select v45 c6_i32_31 v42
  let v50 : BitVec 32 := Scalar.select v49 c15_i32 v46
  let v54 : BitVec 32 := Scalar.select v53 c8_i32_38 v50
  let v58 : BitVec 32 := Scalar.select v57 c12_i32_42 v54
  let v62 : BitVec 32 := Scalar.select v61 c10_i32_46 v58
  let v66 : BitVec 32 := Scalar.select v65 c14_i32_50 v62
  let c1_i32_547 : BitVec 32 := 1#32
  let v492 : BitVec 32 := Scalar.muli v66 c1_i32_547
  let v493 : BitVec 32 := Scalar.addi c0_i32_548 v492
  v493.toNat
def k0_dev15 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_47 : BitVec 32 := 15#32
  let v63 : BitVec 1 := Scalar.cmpi .eq v2 c15_i32_47
  let c11_i32_48 : BitVec 32 := 11#32
  let c14_i32_43 : BitVec 32 := 14#32
  let v59 : BitVec 1 := Scalar.cmpi .eq v2 c14_i32_43
  let c15_i32_44 : BitVec 32 := 15#32
  let c13_i32_39 : BitVec 32 := 13#32
  let v55 : BitVec 1 := Scalar.cmpi .eq v2 c13_i32_39
  let c9_i32_40 : BitVec 32 := 9#32
  let c12_i32_35 : BitVec 32 := 12#32
  let v51 : BitVec 1 := Scalar.cmpi .eq v2 c12_i32_35
  let c13_i32_36 : BitVec 32 := 13#32
  let c11_i32_32 : BitVec 32 := 11#32
  let v47 : BitVec 1 := Scalar.cmpi .eq v2 c11_i32_32
  let c7_i32_33 : BitVec 32 := 7#32
  let c10_i32_29 : BitVec 32 := 10#32
  let v43 : BitVec 1 := Scalar.cmpi .eq v2 c10_i32_29
  let c14_i32 : BitVec 32 := 14#32
  let c9_i32_26 : BitVec 32 := 9#32
  let v39 : BitVec 1 := Scalar.cmpi .eq v2 c9_i32_26
  let c5_i32_27 : BitVec 32 := 5#32
  let c8_i32_23 : BitVec 32 := 8#32
  let v35 : BitVec 1 := Scalar.cmpi .eq v2 c8_i32_23
  let c12_i32 : BitVec 32 := 12#32
  let c7_i32_20 : BitVec 32 := 7#32
  let v31 : BitVec 1 := Scalar.cmpi .eq v2 c7_i32_20
  let c3_i32_21 : BitVec 32 := 3#32
  let c6_i32_17 : BitVec 32 := 6#32
  let v27 : BitVec 1 := Scalar.cmpi .eq v2 c6_i32_17
  let c10_i32 : BitVec 32 := 10#32
  let c5_i32_14 : BitVec 32 := 5#32
  let v23 : BitVec 1 := Scalar.cmpi .eq v2 c5_i32_14
  let c1_i32_15 : BitVec 32 := 1#32
  let c4_i32_11 : BitVec 32 := 4#32
  let v19 : BitVec 1 := Scalar.cmpi .eq v2 c4_i32_11
  let c8_i32 : BitVec 32 := 8#32
  let c3_i32_8 : BitVec 32 := 3#32
  let v15 : BitVec 1 := Scalar.cmpi .eq v2 c3_i32_8
  let c0_i32_9 : BitVec 32 := 0#32
  let c2_i32_5 : BitVec 32 := 2#32
  let v11 : BitVec 1 := Scalar.cmpi .eq v2 c2_i32_5
  let c6_i32 : BitVec 32 := 6#32
  let c1_i32_3 : BitVec 32 := 1#32
  let v7 : BitVec 1 := Scalar.cmpi .eq v2 c1_i32_3
  let c2_i32 : BitVec 32 := 2#32
  let c0_i32 : BitVec 32 := 0#32
  let v3 : BitVec 1 := Scalar.cmpi .eq v2 c0_i32
  let c4_i32 : BitVec 32 := 4#32
  let c0_i32_0 : BitVec 32 := 0#32
  let v4 : BitVec 32 := Scalar.select v3 c4_i32 c0_i32_0
  let v8 : BitVec 32 := Scalar.select v7 c2_i32 v4
  let v12 : BitVec 32 := Scalar.select v11 c6_i32 v8
  let v16 : BitVec 32 := Scalar.select v15 c0_i32_9 v12
  let v20 : BitVec 32 := Scalar.select v19 c8_i32 v16
  let v24 : BitVec 32 := Scalar.select v23 c1_i32_15 v20
  let v28 : BitVec 32 := Scalar.select v27 c10_i32 v24
  let v32 : BitVec 32 := Scalar.select v31 c3_i32_21 v28
  let v36 : BitVec 32 := Scalar.select v35 c12_i32 v32
  let v40 : BitVec 32 := Scalar.select v39 c5_i32_27 v36
  let v44 : BitVec 32 := Scalar.select v43 c14_i32 v40
  let v48 : BitVec 32 := Scalar.select v47 c7_i32_33 v44
  let v52 : BitVec 32 := Scalar.select v51 c13_i32_36 v48
  let v56 : BitVec 32 := Scalar.select v55 c9_i32_40 v52
  let v60 : BitVec 32 := Scalar.select v59 c15_i32_44 v56
  let v64 : BitVec 32 := Scalar.select v63 c11_i32_48 v60
  let c1_i32_629 : BitVec 32 := 1#32
  let v564 : BitVec 32 := Scalar.muli v64 c1_i32_629
  let v565 : BitVec 32 := Scalar.addi c0_i32_630 v564
  v565.toNat
def k0_dev16 (d0 : Dev nD) : Nat :=
  let c0_i32_642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_49 : BitVec 32 := 15#32
  let v65 : BitVec 1 := Scalar.cmpi .eq v2 c15_i32_49
  let c14_i32_50 : BitVec 32 := 14#32
  let c14_i32_45 : BitVec 32 := 14#32
  let v61 : BitVec 1 := Scalar.cmpi .eq v2 c14_i32_45
  let c10_i32_46 : BitVec 32 := 10#32
  let c13_i32_41 : BitVec 32 := 13#32
  let v57 : BitVec 1 := Scalar.cmpi .eq v2 c13_i32_41
  let c12_i32_42 : BitVec 32 := 12#32
  let c12_i32_37 : BitVec 32 := 12#32
  let v53 : BitVec 1 := Scalar.cmpi .eq v2 c12_i32_37
  let c8_i32_38 : BitVec 32 := 8#32
  let c11_i32_34 : BitVec 32 := 11#32
  let v49 : BitVec 1 := Scalar.cmpi .eq v2 c11_i32_34
  let c15_i32 : BitVec 32 := 15#32
  let c10_i32_30 : BitVec 32 := 10#32
  let v45 : BitVec 1 := Scalar.cmpi .eq v2 c10_i32_30
  let c6_i32_31 : BitVec 32 := 6#32
  let c9_i32_28 : BitVec 32 := 9#32
  let v41 : BitVec 1 := Scalar.cmpi .eq v2 c9_i32_28
  let c13_i32 : BitVec 32 := 13#32
  let c8_i32_24 : BitVec 32 := 8#32
  let v37 : BitVec 1 := Scalar.cmpi .eq v2 c8_i32_24
  let c4_i32_25 : BitVec 32 := 4#32
  let c7_i32_22 : BitVec 32 := 7#32
  let v33 : BitVec 1 := Scalar.cmpi .eq v2 c7_i32_22
  let c11_i32 : BitVec 32 := 11#32
  let c6_i32_18 : BitVec 32 := 6#32
  let v29 : BitVec 1 := Scalar.cmpi .eq v2 c6_i32_18
  let c2_i32_19 : BitVec 32 := 2#32
  let c5_i32_16 : BitVec 32 := 5#32
  let v25 : BitVec 1 := Scalar.cmpi .eq v2 c5_i32_16
  let c9_i32 : BitVec 32 := 9#32
  let c4_i32_12 : BitVec 32 := 4#32
  let v21 : BitVec 1 := Scalar.cmpi .eq v2 c4_i32_12
  let c0_i32_13 : BitVec 32 := 0#32
  let c3_i32_10 : BitVec 32 := 3#32
  let v17 : BitVec 1 := Scalar.cmpi .eq v2 c3_i32_10
  let c7_i32 : BitVec 32 := 7#32
  let c2_i32_6 : BitVec 32 := 2#32
  let v13 : BitVec 1 := Scalar.cmpi .eq v2 c2_i32_6
  let c1_i32_7 : BitVec 32 := 1#32
  let c1_i32_4 : BitVec 32 := 1#32
  let v9 : BitVec 1 := Scalar.cmpi .eq v2 c1_i32_4
  let c5_i32 : BitVec 32 := 5#32
  let c0_i32_1 : BitVec 32 := 0#32
  let v5 : BitVec 1 := Scalar.cmpi .eq v2 c0_i32_1
  let c3_i32 : BitVec 32 := 3#32
  let c0_i32_2 : BitVec 32 := 0#32
  let v6 : BitVec 32 := Scalar.select v5 c3_i32 c0_i32_2
  let v10 : BitVec 32 := Scalar.select v9 c5_i32 v6
  let v14 : BitVec 32 := Scalar.select v13 c1_i32_7 v10
  let v18 : BitVec 32 := Scalar.select v17 c7_i32 v14
  let v22 : BitVec 32 := Scalar.select v21 c0_i32_13 v18
  let v26 : BitVec 32 := Scalar.select v25 c9_i32 v22
  let v30 : BitVec 32 := Scalar.select v29 c2_i32_19 v26
  let v34 : BitVec 32 := Scalar.select v33 c11_i32 v30
  let v38 : BitVec 32 := Scalar.select v37 c4_i32_25 v34
  let v42 : BitVec 32 := Scalar.select v41 c13_i32 v38
  let v46 : BitVec 32 := Scalar.select v45 c6_i32_31 v42
  let v50 : BitVec 32 := Scalar.select v49 c15_i32 v46
  let v54 : BitVec 32 := Scalar.select v53 c8_i32_38 v50
  let v58 : BitVec 32 := Scalar.select v57 c12_i32_42 v54
  let v62 : BitVec 32 := Scalar.select v61 c10_i32_46 v58
  let v66 : BitVec 32 := Scalar.select v65 c14_i32_50 v62
  let c1_i32_641 : BitVec 32 := 1#32
  let v574 : BitVec 32 := Scalar.muli v66 c1_i32_641
  let v575 : BitVec 32 := Scalar.addi c0_i32_642 v574
  v575.toNat
def k0_dev17 (d0 : Dev nD) : Nat :=
  let c0_i32_724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_47 : BitVec 32 := 15#32
  let v63 : BitVec 1 := Scalar.cmpi .eq v2 c15_i32_47
  let c11_i32_48 : BitVec 32 := 11#32
  let c14_i32_43 : BitVec 32 := 14#32
  let v59 : BitVec 1 := Scalar.cmpi .eq v2 c14_i32_43
  let c15_i32_44 : BitVec 32 := 15#32
  let c13_i32_39 : BitVec 32 := 13#32
  let v55 : BitVec 1 := Scalar.cmpi .eq v2 c13_i32_39
  let c9_i32_40 : BitVec 32 := 9#32
  let c12_i32_35 : BitVec 32 := 12#32
  let v51 : BitVec 1 := Scalar.cmpi .eq v2 c12_i32_35
  let c13_i32_36 : BitVec 32 := 13#32
  let c11_i32_32 : BitVec 32 := 11#32
  let v47 : BitVec 1 := Scalar.cmpi .eq v2 c11_i32_32
  let c7_i32_33 : BitVec 32 := 7#32
  let c10_i32_29 : BitVec 32 := 10#32
  let v43 : BitVec 1 := Scalar.cmpi .eq v2 c10_i32_29
  let c14_i32 : BitVec 32 := 14#32
  let c9_i32_26 : BitVec 32 := 9#32
  let v39 : BitVec 1 := Scalar.cmpi .eq v2 c9_i32_26
  let c5_i32_27 : BitVec 32 := 5#32
  let c8_i32_23 : BitVec 32 := 8#32
  let v35 : BitVec 1 := Scalar.cmpi .eq v2 c8_i32_23
  let c12_i32 : BitVec 32 := 12#32
  let c7_i32_20 : BitVec 32 := 7#32
  let v31 : BitVec 1 := Scalar.cmpi .eq v2 c7_i32_20
  let c3_i32_21 : BitVec 32 := 3#32
  let c6_i32_17 : BitVec 32 := 6#32
  let v27 : BitVec 1 := Scalar.cmpi .eq v2 c6_i32_17
  let c10_i32 : BitVec 32 := 10#32
  let c5_i32_14 : BitVec 32 := 5#32
  let v23 : BitVec 1 := Scalar.cmpi .eq v2 c5_i32_14
  let c1_i32_15 : BitVec 32 := 1#32
  let c4_i32_11 : BitVec 32 := 4#32
  let v19 : BitVec 1 := Scalar.cmpi .eq v2 c4_i32_11
  let c8_i32 : BitVec 32 := 8#32
  let c3_i32_8 : BitVec 32 := 3#32
  let v15 : BitVec 1 := Scalar.cmpi .eq v2 c3_i32_8
  let c0_i32_9 : BitVec 32 := 0#32
  let c2_i32_5 : BitVec 32 := 2#32
  let v11 : BitVec 1 := Scalar.cmpi .eq v2 c2_i32_5
  let c6_i32 : BitVec 32 := 6#32
  let c1_i32_3 : BitVec 32 := 1#32
  let v7 : BitVec 1 := Scalar.cmpi .eq v2 c1_i32_3
  let c2_i32 : BitVec 32 := 2#32
  let c0_i32 : BitVec 32 := 0#32
  let v3 : BitVec 1 := Scalar.cmpi .eq v2 c0_i32
  let c4_i32 : BitVec 32 := 4#32
  let c0_i32_0 : BitVec 32 := 0#32
  let v4 : BitVec 32 := Scalar.select v3 c4_i32 c0_i32_0
  let v8 : BitVec 32 := Scalar.select v7 c2_i32 v4
  let v12 : BitVec 32 := Scalar.select v11 c6_i32 v8
  let v16 : BitVec 32 := Scalar.select v15 c0_i32_9 v12
  let v20 : BitVec 32 := Scalar.select v19 c8_i32 v16
  let v24 : BitVec 32 := Scalar.select v23 c1_i32_15 v20
  let v28 : BitVec 32 := Scalar.select v27 c10_i32 v24
  let v32 : BitVec 32 := Scalar.select v31 c3_i32_21 v28
  let v36 : BitVec 32 := Scalar.select v35 c12_i32 v32
  let v40 : BitVec 32 := Scalar.select v39 c5_i32_27 v36
  let v44 : BitVec 32 := Scalar.select v43 c14_i32 v40
  let v48 : BitVec 32 := Scalar.select v47 c7_i32_33 v44
  let v52 : BitVec 32 := Scalar.select v51 c13_i32_36 v48
  let v56 : BitVec 32 := Scalar.select v55 c9_i32_40 v52
  let v60 : BitVec 32 := Scalar.select v59 c15_i32_44 v56
  let v64 : BitVec 32 := Scalar.select v63 c11_i32_48 v60
  let c1_i32_723 : BitVec 32 := 1#32
  let v646 : BitVec 32 := Scalar.muli v64 c1_i32_723
  let v647 : BitVec 32 := Scalar.addi c0_i32_724 v646
  v647.toNat
def k0_dev18 (d0 : Dev nD) : Nat :=
  let c0_i32_794_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_49 : BitVec 32 := 15#32
  let v65 : BitVec 1 := Scalar.cmpi .eq v2 c15_i32_49
  let c14_i32_50 : BitVec 32 := 14#32
  let c14_i32_45 : BitVec 32 := 14#32
  let v61 : BitVec 1 := Scalar.cmpi .eq v2 c14_i32_45
  let c10_i32_46 : BitVec 32 := 10#32
  let c13_i32_41 : BitVec 32 := 13#32
  let v57 : BitVec 1 := Scalar.cmpi .eq v2 c13_i32_41
  let c12_i32_42 : BitVec 32 := 12#32
  let c12_i32_37 : BitVec 32 := 12#32
  let v53 : BitVec 1 := Scalar.cmpi .eq v2 c12_i32_37
  let c8_i32_38 : BitVec 32 := 8#32
  let c11_i32_34 : BitVec 32 := 11#32
  let v49 : BitVec 1 := Scalar.cmpi .eq v2 c11_i32_34
  let c15_i32 : BitVec 32 := 15#32
  let c10_i32_30 : BitVec 32 := 10#32
  let v45 : BitVec 1 := Scalar.cmpi .eq v2 c10_i32_30
  let c6_i32_31 : BitVec 32 := 6#32
  let c9_i32_28 : BitVec 32 := 9#32
  let v41 : BitVec 1 := Scalar.cmpi .eq v2 c9_i32_28
  let c13_i32 : BitVec 32 := 13#32
  let c8_i32_24 : BitVec 32 := 8#32
  let v37 : BitVec 1 := Scalar.cmpi .eq v2 c8_i32_24
  let c4_i32_25 : BitVec 32 := 4#32
  let c7_i32_22 : BitVec 32 := 7#32
  let v33 : BitVec 1 := Scalar.cmpi .eq v2 c7_i32_22
  let c11_i32 : BitVec 32 := 11#32
  let c6_i32_18 : BitVec 32 := 6#32
  let v29 : BitVec 1 := Scalar.cmpi .eq v2 c6_i32_18
  let c2_i32_19 : BitVec 32 := 2#32
  let c5_i32_16 : BitVec 32 := 5#32
  let v25 : BitVec 1 := Scalar.cmpi .eq v2 c5_i32_16
  let c9_i32 : BitVec 32 := 9#32
  let c4_i32_12 : BitVec 32 := 4#32
  let v21 : BitVec 1 := Scalar.cmpi .eq v2 c4_i32_12
  let c0_i32_13 : BitVec 32 := 0#32
  let c3_i32_10 : BitVec 32 := 3#32
  let v17 : BitVec 1 := Scalar.cmpi .eq v2 c3_i32_10
  let c7_i32 : BitVec 32 := 7#32
  let c2_i32_6 : BitVec 32 := 2#32
  let v13 : BitVec 1 := Scalar.cmpi .eq v2 c2_i32_6
  let c1_i32_7 : BitVec 32 := 1#32
  let c1_i32_4 : BitVec 32 := 1#32
  let v9 : BitVec 1 := Scalar.cmpi .eq v2 c1_i32_4
  let c5_i32 : BitVec 32 := 5#32
  let c0_i32_1 : BitVec 32 := 0#32
  let v5 : BitVec 1 := Scalar.cmpi .eq v2 c0_i32_1
  let c3_i32 : BitVec 32 := 3#32
  let c0_i32_2 : BitVec 32 := 0#32
  let v6 : BitVec 32 := Scalar.select v5 c3_i32 c0_i32_2
  let v10 : BitVec 32 := Scalar.select v9 c5_i32 v6
  let v14 : BitVec 32 := Scalar.select v13 c1_i32_7 v10
  let v18 : BitVec 32 := Scalar.select v17 c7_i32 v14
  let v22 : BitVec 32 := Scalar.select v21 c0_i32_13 v18
  let v26 : BitVec 32 := Scalar.select v25 c9_i32 v22
  let v30 : BitVec 32 := Scalar.select v29 c2_i32_19 v26
  let v34 : BitVec 32 := Scalar.select v33 c11_i32 v30
  let v38 : BitVec 32 := Scalar.select v37 c4_i32_25 v34
  let v42 : BitVec 32 := Scalar.select v41 c13_i32 v38
  let v46 : BitVec 32 := Scalar.select v45 c6_i32_31 v42
  let v50 : BitVec 32 := Scalar.select v49 c15_i32 v46
  let v54 : BitVec 32 := Scalar.select v53 c8_i32_38 v50
  let v58 : BitVec 32 := Scalar.select v57 c12_i32_42 v54
  let v62 : BitVec 32 := Scalar.select v61 c10_i32_46 v58
  let v66 : BitVec 32 := Scalar.select v65 c14_i32_50 v62
  let c1_i32_793_r0 : BitVec 32 := 1#32
  let v725_r0 : BitVec 32 := Scalar.muli v66 c1_i32_793_r0
  let v726_r0 : BitVec 32 := Scalar.addi c0_i32_794_r0 v725_r0
  v726_r0.toNat
def k0_dev19 (d0 : Dev nD) : Nat :=
  let c0_i32_797_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_47 : BitVec 32 := 15#32
  let v63 : BitVec 1 := Scalar.cmpi .eq v2 c15_i32_47
  let c11_i32_48 : BitVec 32 := 11#32
  let c14_i32_43 : BitVec 32 := 14#32
  let v59 : BitVec 1 := Scalar.cmpi .eq v2 c14_i32_43
  let c15_i32_44 : BitVec 32 := 15#32
  let c13_i32_39 : BitVec 32 := 13#32
  let v55 : BitVec 1 := Scalar.cmpi .eq v2 c13_i32_39
  let c9_i32_40 : BitVec 32 := 9#32
  let c12_i32_35 : BitVec 32 := 12#32
  let v51 : BitVec 1 := Scalar.cmpi .eq v2 c12_i32_35
  let c13_i32_36 : BitVec 32 := 13#32
  let c11_i32_32 : BitVec 32 := 11#32
  let v47 : BitVec 1 := Scalar.cmpi .eq v2 c11_i32_32
  let c7_i32_33 : BitVec 32 := 7#32
  let c10_i32_29 : BitVec 32 := 10#32
  let v43 : BitVec 1 := Scalar.cmpi .eq v2 c10_i32_29
  let c14_i32 : BitVec 32 := 14#32
  let c9_i32_26 : BitVec 32 := 9#32
  let v39 : BitVec 1 := Scalar.cmpi .eq v2 c9_i32_26
  let c5_i32_27 : BitVec 32 := 5#32
  let c8_i32_23 : BitVec 32 := 8#32
  let v35 : BitVec 1 := Scalar.cmpi .eq v2 c8_i32_23
  let c12_i32 : BitVec 32 := 12#32
  let c7_i32_20 : BitVec 32 := 7#32
  let v31 : BitVec 1 := Scalar.cmpi .eq v2 c7_i32_20
  let c3_i32_21 : BitVec 32 := 3#32
  let c6_i32_17 : BitVec 32 := 6#32
  let v27 : BitVec 1 := Scalar.cmpi .eq v2 c6_i32_17
  let c10_i32 : BitVec 32 := 10#32
  let c5_i32_14 : BitVec 32 := 5#32
  let v23 : BitVec 1 := Scalar.cmpi .eq v2 c5_i32_14
  let c1_i32_15 : BitVec 32 := 1#32
  let c4_i32_11 : BitVec 32 := 4#32
  let v19 : BitVec 1 := Scalar.cmpi .eq v2 c4_i32_11
  let c8_i32 : BitVec 32 := 8#32
  let c3_i32_8 : BitVec 32 := 3#32
  let v15 : BitVec 1 := Scalar.cmpi .eq v2 c3_i32_8
  let c0_i32_9 : BitVec 32 := 0#32
  let c2_i32_5 : BitVec 32 := 2#32
  let v11 : BitVec 1 := Scalar.cmpi .eq v2 c2_i32_5
  let c6_i32 : BitVec 32 := 6#32
  let c1_i32_3 : BitVec 32 := 1#32
  let v7 : BitVec 1 := Scalar.cmpi .eq v2 c1_i32_3
  let c2_i32 : BitVec 32 := 2#32
  let c0_i32 : BitVec 32 := 0#32
  let v3 : BitVec 1 := Scalar.cmpi .eq v2 c0_i32
  let c4_i32 : BitVec 32 := 4#32
  let c0_i32_0 : BitVec 32 := 0#32
  let v4 : BitVec 32 := Scalar.select v3 c4_i32 c0_i32_0
  let v8 : BitVec 32 := Scalar.select v7 c2_i32 v4
  let v12 : BitVec 32 := Scalar.select v11 c6_i32 v8
  let v16 : BitVec 32 := Scalar.select v15 c0_i32_9 v12
  let v20 : BitVec 32 := Scalar.select v19 c8_i32 v16
  let v24 : BitVec 32 := Scalar.select v23 c1_i32_15 v20
  let v28 : BitVec 32 := Scalar.select v27 c10_i32 v24
  let v32 : BitVec 32 := Scalar.select v31 c3_i32_21 v28
  let v36 : BitVec 32 := Scalar.select v35 c12_i32 v32
  let v40 : BitVec 32 := Scalar.select v39 c5_i32_27 v36
  let v44 : BitVec 32 := Scalar.select v43 c14_i32 v40
  let v48 : BitVec 32 := Scalar.select v47 c7_i32_33 v44
  let v52 : BitVec 32 := Scalar.select v51 c13_i32_36 v48
  let v56 : BitVec 32 := Scalar.select v55 c9_i32_40 v52
  let v60 : BitVec 32 := Scalar.select v59 c15_i32_44 v56
  let v64 : BitVec 32 := Scalar.select v63 c11_i32_48 v60
  let c1_i32_796_r0 : BitVec 32 := 1#32
  let v727_r0 : BitVec 32 := Scalar.muli v64 c1_i32_796_r0
  let v728_r0 : BitVec 32 := Scalar.addi c0_i32_797_r0 v727_r0
  v728_r0.toNat
abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S8192x128 : Shape := ⟨2, ![8192, 128]⟩
abbrev S128x8192 : Shape := ⟨2, ![128, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S128x8192, .f32⟩
  | .hbm, ⟨4, _⟩ => ⟨S8192x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x8192, .f32⟩
  | .hbm, ⟨20, _⟩ => ⟨S8192x8192, .f32⟩
  | .hbm, ⟨21, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Slots.lean ====
/-
# The ring, the sixteen slots of the scratch buffer, and what they hold

Sixteen devices stand on a ring; `nxt` and `prv` are the right and the left neighbour. Each device keeps a scratch
buffer of sixteen slots, slot `j` holding one block of keys and one block of values. In the finished exchange slot `j`
of device `c` holds the blocks of the device `j` steps to the left of `c` (`kv`). A copy of slot `j` of `c` into slot
`j'` of `d` writes the final contents of that slot whenever the two slots name the same origin (`slot_copy`), and a load
of half a slot reads the keys or the values of the origin (`load_k`, `load_v`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The rounds library's algebra for this kernel's cells: duties are named by a `Bool`. -/
abbrev UB : Type := URounds (GSem nD τ sig) Bool
/-- The pipeline's algebra beside it. -/
abbrev UU : Type := UR sig nD τ × UB

local notation "𝕄" => MT nD τ sig Unit (Elt F) ℕ UU ℕ

/-- Where the pipeline's half lives, -/
abbrev EP : Emb (UR sig nD τ) (MT nD τ sig Unit (Elt F) ℕ UU ℕ) := embL
/-- and where the rounds' half does. -/
abbrev ER : Emb UB (MT nD τ sig Unit (Elt F) ℕ UU ℕ) := embR

variable (m : (ℓ : Loc nD τ sig) → Buf (Elt F) ℓ) (ρ : Dev nD → PrngReg)

/-- The launch state: the given memory, every counter at zero. -/
def s₀ : MemSt nD τ sig (Elt F) := ⟨m, fun _ => 0, ρ⟩

/-! ## The ring -/

set_option backward.proofsInPublic true in
/-- The right neighbour. -/
def nxt (c : Dev nD) : Dev nD :=
  (![4, 2, 6, 0, 8, 1, 10, 3, 12, 5, 14, 7, 13, 9, 15, 11] : Fin 16 → Fin 16) c
set_option backward.proofsInPublic true in
/-- The left neighbour. -/
def prv (c : Dev nD) : Dev nD :=
  (![3, 5, 1, 7, 0, 9, 2, 11, 4, 13, 6, 15, 8, 12, 10, 14] : Fin 16 → Fin 16) c

theorem prv_nxt (c : Dev nD) : prv (nxt c) = c := by revert c; decide
theorem nxt_prv (c : Dev nD) : nxt (prv c) = c := by revert c; decide

/-- One step round the ring. -/
def ring : Dev nD ≃ Dev nD := ⟨nxt, prv, prv_nxt, nxt_prv⟩

/-- `j` steps to the left: whose block slot `j` of device `c` holds. -/
def org (c : Dev nD) (j : ℕ) : Dev nD := prv^[j] c

theorem org_zero (c : Dev nD) : org c 0 = c := rfl
/-- Sixteen steps to the left come back. -/
theorem org_sixteen (c : Dev nD) : org c 16 = c := by revert c; decide
/-- The right neighbour's next slot names the same origin. -/
theorem org_nxt (c : Dev nD) (j : ℕ) : org (nxt c) (j + 1) = org c j := by
  unfold org; rw [Function.iterate_succ_apply, prv_nxt]
/-- The left neighbour's previous slot names the same origin. -/
theorem org_prv (c : Dev nD) (j : ℕ) : org (prv c) j = org c (j + 1) := by
  unfold org; rw [Function.iterate_succ_apply]

/-! ## The slots -/

/-- The scratch buffer. -/
abbrev scrM : Memref sig .tc .vmem S16x2x512x128 .bf16 := Memref.whole cc0_scratch0

theorem slot_inb (j : Fin 16) : ∀ a, (![j.val, 0, 0, 0] : Fin 4 → Nat) a + S1x2x512x128.size a ≤ S16x2x512x128.size a := by
  revert j; decide
theorem half_inb (j : Fin 16) (s : Fin 2) :
    ∀ a, (![j.val, s.val, 0, 0] : Fin 4 → Nat) a + S1x1x512x128.size a ≤ S16x2x512x128.size a := by
  revert j s; decide

/-- Slot `j`'s rectangle, -/
abbrev slotR (j : Fin 16) : Rect S16x2x512x128 := Rect.unit (s := S16x2x512x128) ![j.val, 0, 0, 0] S1x2x512x128.size (slot_inb j)
/-- its key (`s = 0`) or value (`s = 1`) half's, -/
abbrev halfR (j : Fin 16) (s : Fin 2) : Rect S16x2x512x128 :=
  Rect.unit (s := S16x2x512x128) ![j.val, s.val, 0, 0] S1x1x512x128.size (half_inb j s)
/-- and the slot as a transfer names it. -/
abbrev slotM (j : Fin 16) : Memref sig .tc .vmem S2x512x128 .bf16 :=
  (scrM.slice (slotR j) (fun _ => rfl)).squeeze S2x512x128 squeezes_S1x2x512x128_S2x512x128

/-- A slot's elements are its rectangle's. -/
theorem slot_set (j : Fin 16) : (slotM j).view.set = (slotR j).set := by
  exact (View.set_reshape _ _).trans (View.set_slice_whole _ _)

/-- Half a slot lies in the slot. -/
theorem half_sub (j : Fin 16) (s : Fin 2) : scrM.view.setOn (halfR j s).set ⊆ (slotM j).view.set := by
  rw [slot_set]
  intro i hi
  obtain ⟨x, hx, rfl⟩ := Finset.mem_map.mp hi
  have h := Rect.mem_set_unit.mp hx
  refine Rect.mem_set_unit.mpr fun a => ?_
  have ha := h a
  have hs := s.isLt
  fin_cases a
  · exact ha
  · exact ⟨Nat.zero_le _, lt_of_lt_of_le ha.2 (by show s.val + 1 ≤ 0 + 2; omega)⟩
  · exact ha
  · exact ha

/-- Half a slot as a store's access to it. -/
theorem half_sub_access (j : Fin 16) (s : Fin 2) : (scrM.access (halfR j s)).setOn Finset.univ ⊆ (slotM j).view.set := by
  refine subset_trans (subset_of_eq ?_) (half_sub j s)
  show (scrM.view.slice (halfR j s)).set = _
  rw [View.set_slice]; rfl

/-- A slot's elements, as indices of the buffer. -/
abbrev slotI (j : Fin 16) : Finset S16x2x512x128.Idx := (slotM j).view.set

theorem slots_disjoint (b b' : Fin 16) (h : b ≠ b') : Disjoint (slotI b) (slotI b') := by
  rw [show slotI b = _ from slot_set b, show slotI b' = _ from slot_set b']
  exact Ring.lead_disjoint (s := S16x2x512x128) (NB := 16) (0 : Fin 4) 1 (fun b => ![b.val, 0, 0, 0]) S1x2x512x128.size slot_inb
    (fun b => (Nat.one_mul _).symm) rfl b b' h

theorem slots_cover : Finset.univ.biUnion slotI = Finset.univ := by
  rw [show slotI = fun b => (slotR b).set from funext slot_set]
  exact Ring.lead_cover (s := S16x2x512x128) (NB := 16) (0 : Fin 4) 1 (fun b => ![b.val, 0, 0, 0]) S1x2x512x128.size slot_inb
    (fun b => (Nat.one_mul _).symm) (fun b a ha => by fin_cases a <;> first | exact absurd rfl ha | rfl) rfl
    (fun a ha => by fin_cases a <;> first | exact absurd rfl ha | rfl) rfl

/-! ## What the slots hold -/

/-- Device `c`'s blocks of the three arguments as its staging buffers hold them: queries, keys, values. -/
def qin (c : Dev nD) : (cc0_stg0_0 : Ref sig .tc).ty.Contents (Elt F) :=
  (win0_0.blk (0 : Fin 1)).view.read (Elt F) (m ((c : Thread nD τ).loc main_arg0))
def kin (c : Dev nD) : (cc0_stg1_0 : Ref sig .tc).ty.Contents (Elt F) :=
  (win0_1.blk (0 : Fin 1)).view.read (Elt F) (m ((c : Thread nD τ).loc main_arg1))
def vin (c : Dev nD) : (cc0_stg2_0 : Ref sig .tc).ty.Contents (Elt F) :=
  (win0_2.blk (0 : Fin 1)).view.read (Elt F) (m ((c : Thread nD τ).loc main_arg2))

/-- Device `c`'s keys as stored in a slot, rounded to the slots' format, -/
def kb (c : Dev nD) : FVec F S1x1x512x128 .bf16 := k0_pay2 (kin m c)
/-- and its values. -/
def vb (c : Dev nD) : FVec F S1x1x512x128 .bf16 := k0_pay3 (vin m c)

/-- An index of the whole buffer, within half a slot. -/
def inHalf (i : S16x2x512x128.Idx) : S1x1x512x128.Idx := fun
  | ⟨0, _⟩ => (⟨0, by decide⟩ : Fin 1)
  | ⟨1, _⟩ => (⟨0, by decide⟩ : Fin 1)
  | ⟨2, _⟩ => (i 2 : Fin 512)
  | ⟨3, _⟩ => (i 3 : Fin 128)

/-- The whole buffer after the exchange: slot `j` holds the keys and values of the device `j` steps to the left. -/
def kv (c : Dev nD) : (cc0_scratch0 : Ref sig .tc).ty.Contents (Elt F) := fun i =>
  if (i 1).val = 0 then kb m (org c (i 0).val) (inHalf i) else vb m (org c (i 0).val) (inHalf i)

/-- `kv` reads an index only through its origin, its half and its place in the half. -/
theorem kv_congr {c d : Dev nD} {i i' : S16x2x512x128.Idx} (h0 : org c (i 0).val = org d (i' 0).val)
    (h1 : (i 1).val = (i' 1).val) (h2 : (i 2).val = (i' 2).val) (h3 : (i 3).val = (i' 3).val) : kv m c i = kv m d i' := by
  have hh : inHalf i = inHalf i' := by
    funext a; fin_cases a
    · rfl
    · rfl
    · exact Fin.ext h2
    · exact Fin.ext h3
  unfold kv
  rw [h0, h1, hh]

/-- Where slot `j`'s view places an index: at `j` on the leading axis, wherever else any slot's view places it. -/
theorem slot_emb (j : Fin 16) (x : S2x512x128.Idx) (a : Fin 4) :
    ((slotM j).view.emb x a).val = (![j.val, 0, 0, 0] : Fin 4 → Nat) a
      + (Shape.reshapeEquiv (s := S1x2x512x128) (s' := S2x512x128) squeezes_S1x2x512x128_S2x512x128.numel_eq x a).val := by
  show (![j.val, 0, 0, 0] : Fin 4 → Nat) a + 1 * _ = _
  rw [Nat.one_mul]
  rfl

/-- A copy of slot `j` of `c` into slot `j'` of `d` leaves there what the exchange leaves there, when the two slots
    name the same origin. -/
theorem slot_copy (c d : Dev nD) (j j' : Fin 16) (h : org c j.val = org d j'.val)
    (fd : (cc0_scratch0 : Ref sig .tc).ty.Contents (Elt F)) :
    ∀ i ∈ (slotM j').view.set, (slotM j').view.write (Elt F) fd ((slotM j).view.read (Elt F) (kv m c)) Finset.univ i = kv m d i := by
  intro i hi
  obtain ⟨x, -, rfl⟩ := Finset.mem_map.mp hi
  rw [View.write_emb_of_mem _ _ (Finset.mem_univ x)]
  show kv m c ((slotM j).view.emb x) = kv m d ((slotM j').view.emb x)
  have hz : ∀ y : S1x2x512x128.Idx, (y 0).val = 0 := fun y => Nat.lt_one_iff.mp (y 0).isLt
  refine kv_congr m ?_ ?_ ?_ ?_
  · rw [slot_emb j x 0, slot_emb j' x 0, hz]; exact h
  · rw [slot_emb j x 1, slot_emb j' x 1]; rfl
  · rw [slot_emb j x 2, slot_emb j' x 2]; rfl
  · rw [slot_emb j x 3, slot_emb j' x 3]; rfl

/-- A load of slot `j`'s key half reads the origin's keys, -/
theorem load_k (c : Dev nD) (j : Fin 16) : scrM.view.readAt (Elt F) (halfR j 0).toLoadRect (kv m c) = kb m (org c j.val) := by
  funext x
  have hz0 : (x 0).val = 0 := Nat.lt_one_iff.mp (x 0).isLt
  have hz1 : (x 1).val = 0 := Nat.lt_one_iff.mp (x 1).isLt
  show kv m c ((halfR j 0).emb x) = _
  have e0 : ((halfR j 0).emb x 0).val = j.val := by show j.val + 1 * (x 0).val = _; omega
  have e1 : ((halfR j 0).emb x 1).val = 0 := by show 0 + 1 * (x 1).val = _; omega
  have e : inHalf ((halfR j 0).emb x) = x := by
    funext a; fin_cases a
    · exact Fin.ext hz0.symm
    · exact Fin.ext hz1.symm
    · exact Fin.ext (by show 0 + 1 * (x 2).val = (x 2).val; omega)
    · exact Fin.ext (by show 0 + 1 * (x 3).val = (x 3).val; omega)
  unfold kv
  rw [if_pos e1, e0, e]

/-- and of its value half the origin's values. -/
theorem load_v (c : Dev nD) (j : Fin 16) : scrM.view.readAt (Elt F) (halfR j 1).toLoadRect (kv m c) = vb m (org c j.val) := by
  funext x
  have hz0 : (x 0).val = 0 := Nat.lt_one_iff.mp (x 0).isLt
  have hz1 : (x 1).val = 0 := Nat.lt_one_iff.mp (x 1).isLt
  show kv m c ((halfR j 1).emb x) = _
  have e0 : ((halfR j 1).emb x 0).val = j.val := by show j.val + 1 * (x 0).val = _; omega
  have e1 : ¬ ((halfR j 1).emb x 1).val = 0 := by show ¬ 1 + 1 * (x 1).val = 0; omega
  have e : inHalf ((halfR j 1).emb x) = x := by
    funext a; fin_cases a
    · exact Fin.ext hz0.symm
    · exact Fin.ext hz1.symm
    · exact Fin.ext (by show 0 + 1 * (x 2).val = (x 2).val; omega)
    · exact Fin.ext (by show 0 + 1 * (x 3).val = (x 3).val; omega)
  unfold kv
  rw [if_neg e1, e0, e]

/-- The two stores of a device's own keys and values leave slot 0 at its final contents. -/
theorem slot_own (c : Dev nD) (f : (cc0_scratch0 : Ref sig .tc).ty.Contents (Elt F)) :
    ∀ i ∈ (slotM 0).view.set,
      (scrM.access (halfR 0 1)).write (Elt F) ((scrM.access (halfR 0 0)).write (Elt F) f (kb m c) Finset.univ) (vb m c) Finset.univ i
        = kv m c i := by
  intro i hi
  rw [slot_set] at hi
  have h := Rect.mem_set_unit.mp hi
  have h0 : (i 0).val = 0 := by have := (h 0).2; exact Nat.lt_one_iff.mp this
  have hi1 : (i 1).val < 2 := (i 1).isLt
  have hx0 : ∀ s : Fin 2, ((halfR 0 s).emb (inHalf i) 0).val = 0 := fun s => rfl
  by_cases h1 : (i 1).val = 0
  · have e : i = (scrM.access (halfR 0 0)).emb (inHalf i) := by
      funext a; fin_cases a
      · exact Fin.ext (by show (i 0).val = 0 + 1 * 0; omega)
      · exact Fin.ext (by show (i 1).val = 0 + 1 * 0; omega)
      · exact Fin.ext (by show (i 2).val = 0 + 1 * (i 2).val; omega)
      · exact Fin.ext (by show (i 3).val = 0 + 1 * (i 3).val; omega)
    rw [View.write_of_not_mem]
    · rw [show kv m c i = kb m c (inHalf i) from by unfold kv; rw [if_pos h1, h0, org_zero]]
      conv_lhs => rw [e]
      rw [View.write_emb_of_mem _ _ (Finset.mem_univ _)]; rfl
    · intro hm
      obtain ⟨x, -, hx⟩ := Finset.mem_map.mp hm
      have := congrArg (fun i : S16x2x512x128.Idx => (i 1).val) hx
      have h2 : ((scrM.access (halfR 0 1)).emb x 1).val = 1 + 1 * (x 1).val := rfl
      have h3 : 1 + 1 * (x 1).val = (i 1).val := h2.symm.trans this
      omega
  · have e : i = (scrM.access (halfR 0 1)).emb (inHalf i) := by
      funext a; fin_cases a
      · exact Fin.ext (by show (i 0).val = 0 + 1 * 0; omega)
      · exact Fin.ext (by show (i 1).val = 1 + 1 * 0; omega)
      · exact Fin.ext (by show (i 2).val = 0 + 1 * (i 2).val; omega)
      · exact Fin.ext (by show (i 3).val = 0 + 1 * (i 3).val; omega)
    rw [show kv m c i = vb m c (inHalf i) from by unfold kv; rw [if_neg h1, h0, org_zero]]
    conv_lhs => rw [e]
    rw [View.write_emb_of_mem _ _ (Finset.mem_univ _)]; rfl

/-! ## Shares -/

/-- Slot `j` of device `c` at share `q` and contents `f`. -/
def slotPts (q : PosShare TreeShare) (c : Dev nD) (j : Fin 16) (f : (cc0_scratch0 : Ref sig .tc).ty.Contents (Elt F)) : sProp 𝕄 :=
  (slotM j).view.loc (c : Thread nD τ) ↦[(slotM j).view.set]{q} f

omit [FloatOps F] [Named F] in
instance slotPts_storable (q) (c : Dev nD) (j f) : BI.Storable (upEmb : UEmb _ 𝕄) (slotPts (F := F) q c j f) := by
  unfold slotPts; infer_instance

/-- The share the right-going copy reads at, -/
abbrev qA : PosShare TreeShare := fullShare.left
/-- the share the left-going copy reads at, -/
abbrev qB : PosShare TreeShare := fullShare.right.left
/-- and the share the device keeps to load from. -/
abbrev qC : PosShare TreeShare := fullShare.right.right

omit [FloatOps F] [Named F] in
/-- A slot held whole is its three shares. -/
theorem slot_shares (c : Dev nD) (j : Fin 16) (f : (cc0_scratch0 : Ref sig .tc).ty.Contents (Elt F)) :
    (slotPts fullShare c j f : sProp 𝕄) ⊣⊢ iprop(slotPts qA c j f ∗ slotPts qB c j f ∗ slotPts qC c j f) := by
  unfold slotPts
  refine (pointsTo_share (PosShare.mem_left_op_right fullShare)).trans ?_
  have h := pointsTo_share (Ix := Unit) (Name := ℕ) (U := UU) (Lvl := ℕ) (ℓ := (slotM j).view.loc (c : Thread nD τ)) (I := (slotM j).view.set) (f := f)
    (PosShare.mem_left_op_right fullShare.right)
  exact ⟨sep_mono_right h.1, sep_mono_right h.2⟩

omit [FloatOps F] [Named F] in
/-- The scratch buffer held whole is its sixteen slots, -/
theorem slots_split (c : Dev nD) (f : (cc0_scratch0 : Ref sig .tc).ty.Contents (Elt F)) :
    (((c : Thread nD τ).loc cc0_scratch0) ↦{fullShare} f : sProp 𝕄) = bigSep Finset.univ fun j : Fin 16 => slotPts fullShare c j f :=
  Ring.pointsTo_blocks (ℓ := (c : Thread nD τ).loc cc0_scratch0) slotI slots_disjoint slots_cover f

omit [FloatOps F] [Named F] in
/-- and the slots join back. -/
theorem slots_join (c : Dev nD) (f : (cc0_scratch0 : Ref sig .tc).ty.Contents (Elt F)) :
    (bigSep Finset.univ fun j : Fin 16 => (slotPts fullShare c j f : sProp 𝕄)) ⊢ ((c : Thread nD τ).loc cc0_scratch0) ↦{fullShare} f :=
  Entails.of_eq (slots_split c f).symm

end Cert.RingAttn

end
-- ==== Proof.Protocol.lean ====
/-
# The protocol: who signals whom, what each signal carries, and why no wait is stuck

Each device has 32 semaphores of its own in the exchange: the barrier, the closing semaphore, and the send and receive
semaphores of its eight right-going and seven left-going copies. Each is used for one round. A device's barrier is
signalled once by either neighbour: the right neighbour lends the slots the device will copy into on its right, the left
neighbour those on its left. A copy's receive semaphore brings the slot filled with its final contents; its send
semaphore brings back the share of the source it was reading. The closing semaphore carries nothing.

A device makes nineteen payments to its neighbours in a fixed order (`pays`); at its wait for a semaphore of level `l`
every payment still outstanding is of a higher level, so the waits are well founded.
-/
module

public import proofs.«01_k».proof.Proof.Slots

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells -/

/-- The semaphores the kernel allocates: the closing one, the right copies' send and receive, the left copies'. -/
abbrev OCell : Type := Unit ⊕ (Fin 8 ⊕ Fin 8) ⊕ (Fin 7 ⊕ Fin 7)
/-- With the barrier, all the semaphores of the exchange. -/
abbrev Cell : Type := Unit ⊕ OCell

@[match_pattern] abbrev cBar : Cell := .inl ()
@[match_pattern] abbrev oFin : OCell := .inl ()
@[match_pattern] abbrev oRS (h : Fin 8) : OCell := .inr (.inl (.inl h))
@[match_pattern] abbrev oRR (h : Fin 8) : OCell := .inr (.inl (.inr h))
@[match_pattern] abbrev oLS (h : Fin 7) : OCell := .inr (.inr (.inl h))
@[match_pattern] abbrev oLR (h : Fin 7) : OCell := .inr (.inr (.inr h))
@[match_pattern] abbrev cFin : Cell := .inr oFin
@[match_pattern] abbrev cRS (h : Fin 8) : Cell := .inr (oRS h)
@[match_pattern] abbrev cRR (h : Fin 8) : Cell := .inr (oRR h)
@[match_pattern] abbrev cLS (h : Fin 7) : Cell := .inr (oLS h)
@[match_pattern] abbrev cLR (h : Fin 7) : Cell := .inr (oLR h)

set_option backward.proofsInPublic true in
/-- The semaphore each names. -/
def osem : OCell → SemLoc sig
  | oFin => .reg ⟨1, by decide⟩
  | oRS h => .dma ⟨4 + h.val, by have := h.isLt; show _ < 34; omega⟩
  | oRR h => .dma ⟨12 + h.val, by have := h.isLt; show _ < 34; omega⟩
  | oLS h => .dma ⟨20 + h.val, by have := h.isLt; show _ < 34; omega⟩
  | oLR h => .dma ⟨27 + h.val, by have := h.isLt; show _ < 34; omega⟩
set_option backward.proofsInPublic true in
/-- The barrier's semaphore. -/
def barS : SemLoc sig := .reg ⟨0, by decide⟩
def sem : Cell → SemLoc sig
  | cBar => barS
  | .inr k => osem k

theorem sem_injective : Function.Injective sem := by unfold Function.Injective; decide

/-- The cell a semaphore belongs to, if any. -/
def idx (s : SemLoc sig) : Option Cell := Function.partialInv sem s
theorem idx_sem (k : Cell) : idx (sem k) = some k := Function.partialInv_left sem_injective k
theorem idx_none {s : SemLoc sig} (h : ∀ k, sem k ≠ s) : idx s = none := by
  unfold idx Function.partialInv
  exact dif_neg fun ⟨k, hk⟩ => h k hk

instance decEqDevCell : DecidableEq (Dev nD × Cell) := instDecidableEqProd

/-- Device `ck.1`'s cell `ck.2`. -/
def kcell (ck : Dev nD × Cell) : GSem nD τ sig := ((ck.1 : Thread nD τ), sem ck.2)

theorem kcell_injective : Function.Injective kcell := by
  intro a b h
  have h1 : a.1 = b.1 := congrArg (fun g : GSem nD τ sig => g.1.1) h
  have h2 : sem a.2 = sem b.2 := congrArg Prod.snd h
  exact Prod.ext h1 (sem_injective h2)

/-! ## The slots of the copies -/

/-- The right copy of step `h` reads slot `h`, -/
def rsrc (h : Fin 8) : Fin 16 := ⟨h.val, by have := h.isLt; omega⟩
/-- and writes the right neighbour's slot `h + 1`; -/
def rdst (h : Fin 8) : Fin 16 := ⟨h.val + 1, by have := h.isLt; omega⟩
/-- the left copy reads slot `16 - h`, or slot 0 at first, -/
def lsrc (h : Fin 7) : Fin 16 := ⟨(16 - h.val) % 16, Nat.mod_lt _ (by decide)⟩
/-- and writes the left neighbour's slot `15 - h`. -/
def ldst (h : Fin 7) : Fin 16 := ⟨15 - h.val, by have := h.isLt; omega⟩

/-- What the right copy reads is what the right neighbour's slot is to hold, -/
theorem r_org (c : Dev nD) (h : Fin 8) : org c (rsrc h).val = org (nxt c) (rdst h).val := (org_nxt c h.val).symm
/-- and what the left copy reads is what the left neighbour's slot is to hold. -/
theorem l_org (c : Dev nD) (h : Fin 7) : org c (lsrc h).val = org (prv c) (ldst h).val := by
  rw [org_prv]; revert c h; decide

/-- The credit of one slot's copy. -/
def N : ℕ := (slotM 0).view.dmaCredit
theorem N_pos : 0 < N := View.dmaCredit_pos _ (by decide)
theorem N_eq (j : Fin 16) : (slotM j).view.dmaCredit = N := rfl

/-! ## The schedule -/

/-- Who pays: either neighbour at the barrier and at the close, one copy elsewhere. -/
def kdut : Cell → Finset Bool
  | cBar => Finset.univ
  | cFin => Finset.univ
  | _ => {false}
/-- How much each payment is. -/
def kamt : Cell → ℕ
  | cBar => 1
  | cFin => 1
  | _ => N
/-- How much the owner waits for. -/
def kexp : Cell → ℕ
  | cBar => 2
  | cFin => 2
  | _ => N

theorem kamt_pos (k : Cell) : 0 < kamt k := by
  rcases k with _ | (_ | (h | h) | (h | h)) <;> first | exact Nat.one_pos | exact N_pos
theorem kexp_eq (k : Cell) : ∑ d ∈ kdut k, kamt k = kexp k := by
  rcases k with _ | (_ | (h | h) | (h | h)) <;> first | rfl | exact Finset.sum_singleton _ _

/-- What each payment to device `c`'s cells carries: at the barrier the right neighbour's slots 1 to 8 (duty `true`) and
    the left neighbour's slots 15 to 9 (duty `false`). -/
def pay (c : Dev nD) : Cell → Bool → sProp 𝕄
  | cBar, true => bigSep Finset.univ fun h : Fin 8 => iprop(∃ f, slotPts fullShare (nxt c) (rdst h) f)
  | cBar, false => bigSep Finset.univ fun h : Fin 7 => iprop(∃ f, slotPts fullShare (prv c) (ldst h) f)
  | cFin, _ => iprop(emp)
  | cRS h, _ => slotPts qA c (rsrc h) (kv m c)
  | cRR h, _ => slotPts fullShare c (rdst h) (kv m c)
  | cLS h, _ => slotPts qB c (lsrc h) (kv m c)
  | cLR h, _ => slotPts fullShare c (ldst h) (kv m c)

instance pay_storable (c : Dev nD) (k : Cell) (d : Bool) : BI.Storable (upEmb : UEmb _ 𝕄) (pay m c k d) := by
  rcases k with _ | (_ | (h | h) | (h | h)) <;> cases d <;> unfold pay <;> infer_instance

/-- The schedule: one round, the same on every device. -/
def Rd : Rounds.Schedule (GSem nD τ sig) Bool 𝕄 where
  duties g r := if r = 0 ∧ g.1.2 = .tc then (match idx g.2 with | some k => kdut k | none => ∅) else ∅
  unitless _ := False
  amount g _ _ := match idx g.2 with | some k => kamt k | none => 1
  payload g _ d := match idx g.2 with | some k => pay m g.1.1 k d | none => iprop(emp)
  amount_pos g _ _ _ := by
    cases idx g.2 with
    | none => exact Nat.one_pos
    | some k => exact kamt_pos k

instance Rd_payload_storable (g : GSem nD τ sig) (r : ℕ) (d : Bool) :
    BI.Storable (upEmb : UEmb _ 𝕄) ((Rd (F := F) m).payload g r d) := by
  show BI.Storable upEmb (match idx g.2 with | some k => pay m g.1.1 k d | none => iprop(emp))
  cases idx g.2 with
  | none => exact (inferInstance : BI.Storable (upEmb : UEmb _ 𝕄) iprop(emp))
  | some k => exact pay_storable m g.1.1 k d

section Sched
variable (c : Dev nD) (k : Cell)

theorem duties_eq : (Rd (F := F) m).duties (kcell (c, k)) 0 = kdut k := by
  have h : 0 = 0 ∧ (kcell (c, k)).1.2 = .tc := ⟨rfl, rfl⟩
  dsimp only [Rd]
  rw [if_pos h]
  show (match idx (sem k) with | some k => kdut k | none => ∅) = _
  rw [idx_sem]
theorem duties_later (g : GSem nD τ sig) : ∀ r, 1 ≤ r → (Rd (F := F) m).duties g r = ∅ :=
  fun r hr => if_neg fun h => by omega
theorem amount_eq (d : Bool) : (Rd (F := F) m).amount (kcell (c, k)) 0 d = kamt k := by
  show (match idx (sem k) with | some k => kamt k | none => 1) = _
  rw [idx_sem]
theorem expect_eq : (Rd (F := F) m).expect (kcell (c, k)) 0 = kexp k := by
  unfold Schedule.expect Schedule.amountOf
  rw [duties_eq, Finset.sum_congr rfl fun d _ => amount_eq m c k d, kexp_eq]
theorem payload_eq (d : Bool) : (Rd (F := F) m).payload (kcell (c, k)) 0 d = pay m c k d := by
  show (match idx (sem k) with | some k => pay m c k d | none => iprop(emp)) = _
  rw [idx_sem]
/-- What a wait takes at a copy's semaphore, -/
theorem rest_copy (hk : kdut k = {false}) :
    bigSep ((Rd (F := F) m).duties (kcell (c, k)) 0 \ ∅) (fun d => (Rd (F := F) m).payload (kcell (c, k)) 0 d) = pay m c k false := by
  rw [Finset.sdiff_empty, duties_eq, hk, bigSep_singleton, payload_eq]
/-- and at a semaphore both neighbours signal. -/
theorem rest_both (hk : kdut k = Finset.univ) :
    bigSep ((Rd (F := F) m).duties (kcell (c, k)) 0 \ ∅) (fun d => (Rd (F := F) m).payload (kcell (c, k)) 0 d)
      = iprop(pay m c k false ∗ pay m c k true) := by
  rw [Finset.sdiff_empty, duties_eq, hk, bigSep_univ_eq_bigSepL [false, true] (by decide) (by decide), bigSepL_cons_cons, bigSepL_singleton,
    payload_eq, payload_eq]
  rfl

end Sched

/-! ## What a device owes, in the order it pays -/

/-- The payments: the neighbour (`true` for the right one) and the cell there. -/
def pays : List (Bool × Cell) :=
  [(false, cBar), (true, cBar), (true, cRR 0), (false, cLR 0), (true, cRR 1), (false, cLR 1), (true, cRR 2), (false, cLR 2),
   (true, cRR 3), (false, cLR 3), (true, cRR 4), (false, cLR 4), (true, cRR 5), (false, cLR 5), (true, cRR 6), (false, cLR 6),
   (true, cRR 7), (false, cFin), (true, cFin)]

/-- A neighbour of `c`. -/
def nbr (c : Dev nD) (b : Bool) : Dev nD := if b then nxt c else prv c

/-- What the listed payments of device `c` come to. -/
def owedL (c : Dev nD) (l : List (Bool × Cell)) : CellTallies nD τ sig Unit :=
  l.foldr (fun p acc => acc + tallyAt (kcell (nbr c p.1, p.2)) () (kamt p.2)) 0
/-- What is owed after the first `n` payments. -/
def owedFrom (c : Dev nD) (n : ℕ) : CellTallies nD τ sig Unit := owedL c (pays.drop n)

/-- Making payment `n`. -/
theorem owedFrom_step (c : Dev nD) {n : ℕ} {b : Bool} {k : Cell} (h : pays[n]? = some (b, k)) :
    owedFrom c n = owedFrom c (n + 1) + tallyAt (kcell (nbr c b, k)) () (kamt k) := by
  obtain ⟨hn, he⟩ := List.getElem?_eq_some_iff.mp h
  unfold owedFrom
  rw [List.drop_eq_getElem_cons hn, he]
  rfl

/-- Nothing is owed at a semaphore none of the payments goes to. -/
theorem owedL_pos {c : Dev nD} {g : GSem nD τ sig} {u : Unit} {l : List (Bool × Cell)} (h : 0 < owedL c l g u) :
    ∃ p ∈ l, g = kcell (nbr c p.1, p.2) := by
  induction l with
  | nil => exact absurd h (Nat.lt_irrefl 0)
  | cons p l ih =>
    have h' : 0 < owedL c l g u + tallyAt (kcell (nbr c p.1, p.2)) () (kamt p.2) g u := h
    rw [tallyAt_apply] at h'
    by_cases hg : g = kcell (nbr c p.1, p.2)
    · exact ⟨p, List.mem_cons_self .., hg⟩
    · rw [if_neg fun e => hg e.1] at h'
      obtain ⟨q, hq, e⟩ := ih h'
      exact ⟨q, List.mem_cons_of_mem _ hq, e⟩

/-! ## Levels -/

def L (g : GSem nD τ sig) : Finset Unit := if g.1.2 = .tc then {()} else ∅
/-- A cell's level: the sends lowest, then the barrier, then the receives by step, then the close. -/
def klev : Cell → ℕ
  | cBar => 1
  | cFin => 20
  | cRS _ => 0
  | cLS _ => 0
  | cRR h => 2 + h.val
  | cLR h => 2 + h.val
def lv (g : GSem nD τ sig) (_ : Unit) : ℕ := match idx g.2 with | some k => klev k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (ck : Dev nD × Cell) (u : Unit) : lv (kcell ck) u = klev ck.2 := by
  show (match idx (sem ck.2) with | some k => klev k | none => 0) = _
  rw [idx_sem]

/-- A wait is allowed at a semaphore whose level is below that of everything still owed. -/
theorem mayWait_of (c : Dev nD) (sm : SemLoc sig) (n cut : ℕ) (hs : lv ((c : Thread nD τ), sm) () ≤ cut)
    (hp : ∀ p ∈ pays.drop n, cut < klev p.2) : (levAts L lv : sProp 𝕄) ⊢ MayWait (c : Thread nD τ) sm () (owedFrom c n) :=
  MayOwe.of_cut (L := L) (lev := lv) cut (fun p hp => by rw [Finset.mem_singleton.mp hp, L_tc]; exact Finset.mem_singleton_self _)
    (fun g u hg => by
      obtain ⟨p, -, rfl⟩ := owedL_pos hg
      show u ∈ L ((nbr c p.1 : Thread nD τ), sem p.2)
      rw [L_tc]; exact Finset.mem_singleton_self _)
    (fun p hp => by rw [Finset.mem_singleton.mp hp]; exact hs)
    (fun g u hg => by
      obtain ⟨p, hp', rfl⟩ := owedL_pos hg
      rw [lv_cell]; exact hp p hp')

/-- Each cell waits for its own only while owing above it. -/
theorem mayWait_cell (c : Dev nD) (k : Cell) (n : ℕ) (hp : ∀ p ∈ pays.drop n, klev k < klev p.2) :
    (levAts L lv : sProp 𝕄) ⊢ MayWait (c : Thread nD τ) (sem k) () (owedFrom c n) :=
  mayWait_of c (sem k) n (klev k) (le_of_eq (lv_cell (c, k) ())) hp

/-- The pipeline's own semaphores are at the bottom. -/
theorem mayWait_stage (c : Dev nD) (q : DmaSem sig) (hq : q.val < 4) (n : ℕ) :
    (levAts L lv : sProp 𝕄) ⊢ MayWait (c : Thread nD τ) (.dma q) () (owedFrom c n) := by
  refine mayWait_of c (.dma q) n 0 (le_of_eq ?_) ?_
  · have hn : idx (.dma q : SemLoc sig) = none := idx_none fun k hk => by
      have : ∀ k : Cell, ∀ q : DmaSem sig, q.val < 4 → sem k ≠ .dma q := by decide
      exact this k q hq hk
    show (match idx (.dma q : SemLoc sig) with | some k => klev k | none => 0) = 0
    rw [hn]
  · intro p hp
    have : ∀ p ∈ pays, 0 < klev p.2 := by decide
    exact this p (List.mem_of_mem_drop hp)

end Cert.RingAttn

end
-- ==== Proof.Rules.lean ====
/-
# One rule per operation of the exchange

Each rule takes the operation as the program spells it and equations that identify its device, slots and semaphores with
the protocol's: a right copy (`wp_sendR`), a left copy (`wp_sendL`), a wait for a copy (`wp_waitC`), a signal to a
neighbour (`wp_sig`), the wait for both neighbours (`wp_waitS`), and a load of half a slot (`wp_loadK`, `wp_loadV`).
A wait closes its semaphore, which is used no more.
-/
module

public import proofs.«01_k».proof.Proof.Protocol

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows -/

/-- Every cell's invariant, that it has reached its round, and the levels. -/
def records (K : Dev nD × Cell → ℕ) : sProp 𝕄 :=
  iprop((bigSep Finset.univ fun ck : Dev nD × Cell => cellInv ER (Rd m) (K ck) (kcell ck))
    ∗ (bigSep Finset.univ fun ck : Dev nD × Cell => reached ER (kcell ck) 0) ∗ levAts L lv)

instance records_persistent (K : Dev nD × Cell → ℕ) : BI.Persistent (records (F := F) m K) := by unfold records; infer_instance

theorem records_inv (K : Dev nD × Cell → ℕ) (ck : Dev nD × Cell) : records m K ⊢ cellInv ER (Rd m) (K ck) (kcell ck) := by
  unfold records
  exact sep_elim_left.trans (BI.bigSep_elim (Finset.mem_univ ck))
theorem records_reached (K : Dev nD × Cell → ℕ) (ck : Dev nD × Cell) : records m K ⊢ reached ER (kcell ck) 0 := by
  unfold records
  exact (sep_elim_right.trans sep_elim_left).trans (BI.bigSep_elim (Φ := fun ck : Dev nD × Cell => reached ER (kcell ck) 0) (Finset.mem_univ ck))
theorem records_lev (K : Dev nD × Cell → ℕ) : records m K ⊢ levAts L lv := by
  unfold records
  iintro ⟨-, -, H⟩
  iexact H

set_option maxRecDepth 10000 in
theorem records_mayWait (K : Dev nD × Cell → ℕ) (c : Dev nD) (k : Cell) (n : ℕ) (hp : ∀ p ∈ pays.drop n, klev k < klev p.2)
    {s : SemLoc sig} (hs : sem k = s) : records m K ⊢ MayWait (c : Thread nD τ) s () (owedFrom c n) := by
  subst hs
  exact (records_lev m K).trans (mayWait_cell c k n hp)

/-- What device `c` owes after `n` payments, whatever it has waited for. -/
def OW (c : Dev nD) (n : ℕ) : sProp 𝕄 := iprop(∃ W, owes (c : Thread nD τ) (owedFrom c n) W)

/-- A semaphore at zero, to be used no more. -/
def ZV (c : Dev nD) (k : Cell) : sProp 𝕄 := semVal (kcell (c, k)) 0
/-- A copy under way: its credit and the round its wait is to take. -/
def WT (c : Dev nD) (k : Cell) : sProp 𝕄 := iprop(cred (tallyAt (kcell (c, k)) () N) ∗ atPos ER (kcell (c, k)) 0 ∅ 0)
/-- What device `c` keeps for its right copy of step `h` and the one it is to receive, -/
def RPre (c : Dev nD) (h : Fin 8) : sProp 𝕄 :=
  iprop(dutyTok ER (kcell (c, cRS h)) 0 false ∗ dutyTok ER (kcell (nxt c, cRR h)) 0 false ∗ atPos ER (kcell (c, cRS h)) 0 ∅ 0 ∗ WT c (cRR h))
/-- and the right neighbour's slot the copy goes to. -/
def RTgt (c : Dev nD) (h : Fin 8) : sProp 𝕄 := iprop(∃ f, slotPts fullShare (nxt c) (rdst h) f)
/-- The same on the left. -/
def LPre (c : Dev nD) (h : Fin 7) : sProp 𝕄 :=
  iprop(dutyTok ER (kcell (c, cLS h)) 0 false ∗ dutyTok ER (kcell (prv c, cLR h)) 0 false ∗ atPos ER (kcell (c, cLS h)) 0 ∅ 0 ∗ WT c (cLR h))
def LTgt (c : Dev nD) (h : Fin 7) : sProp 𝕄 := iprop(∃ f, slotPts fullShare (prv c) (ldst h) f)

section Rules
variable (K : Dev nD × Cell → ℕ) (c : Dev nD)

theorem amount_R (j : Fin 16) (h : Fin 8) : (slotM j).view.amount (sem (cRR h)) = N := rfl
theorem amount_L (j : Fin 16) (h : Fin 7) : (slotM j).view.amount (sem (cLR h)) = N := rfl

/-! ## Copies -/

/-- A right copy: the share of the source it reads at and the right neighbour's slot go in; the wait's credit comes out. -/
theorem wp_sendR (h : Fin 8) (j : Fin 16) (hj : j = rsrc h) (n : ℕ) (hp : pays[n]? = some (true, cRR h)) {d : Dev nD} (hd : d = nxt c)
    {src : Memref sig .tc .vmem S2x512x128 .bf16} (hs : src = slotM (rsrc h))
    {dst : Memref sig .tc .vmem S2x512x128 .bf16} (ht : dst = slotM (rdst h))
    {ss rs : SemLoc sig} (hss : ss = sem (cRS h)) (hrs : rs = sem (cRR h))
    {hsc : (dst : Memref sig (Dev.tc d : Thread nD τ).2.kind .vmem S2x512x128 .bf16).view.ref.isScScratch = false}
    {hsrc : src.view.WordExact} {hdst : dst.view.WordExact}
    {hsem : DmaTarget.Typed .vmem rs (.remote (Dev.tc d : Thread nD τ) dst ss hsc)}
    {α : Type} {Q : α → sProp 𝕄} {k : PUnit → Prog (TpuEff nD τ sig (Elt F) Λ₀ .tc) α} :
    iprop(records m K ∗ slotPts qA c j (kv m c) ∗ RTgt c h ∗ OW c n ∗ RPre c h)
      ⊢ iprop(((WT c (cRS h) ∗ WT c (cRR h) ∗ OW c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst ss hsc) rs hsrc hdst hsem) k) Q) := by
  subst hd hs ht hss hrs hj
  unfold RTgt RPre
  iintro ⟨#HR, Hs, ⟨%f, Ht⟩, HO, Hd1, Hd2, Hat, HW⟩ Hk
  ihave #I1 := (records_inv m K (c, cRS h)) $$ HR
  ihave #I2 := (records_inv m K (nxt c, cRR h)) $$ HR
  ihave #R1 := (records_reached m K (c, cRS h)) $$ HR
  ihave #R2 := (records_reached m K (nxt c, cRR h)) $$ HR
  unfold OW
  icases HO with ⟨%W, HO⟩
  unfold slotPts
  iapply (Rounds.wp_send_pointsTo 𝒱₀ ER (Rd m) (c : Thread nD τ) none (c' := (nxt c : Thread nD τ)) (src := slotM (rsrc h)) (dst := slotM (rdst h)) (sS := sem (cRS h)) (sem := sem (cRR h))
    (O₀ := owedFrom c n) (κ₁ := K (c, cRS h)) (κ₂ := K (nxt c, cRR h))
    (r₁ := 0) (r₂ := 0) (d₁ := false) (d₂ := false) (fd := f)
    (by rw [show ((c : Thread nD τ), sem (cRS h)) = kcell (c, cRS h) from rfl, duties_eq]; exact Finset.mem_singleton_self _)
    (by rw [show ((nxt c : Thread nD τ), sem (cRR h)) = kcell (nxt c, cRR h) from rfl, duties_eq]; exact Finset.mem_singleton_self _)
    () () N (amount_R _ h) (amount_eq m c (cRS h) false) (amount_eq m (nxt c) (cRR h) false) (owedFrom c (n + 1)) (owedFrom_step c hp) (W := W)
    (by rw [show ((c : Thread nD τ), sem (cRS h)) = kcell (c, cRS h) from rfl, payload_eq]; exact BI.Entails.refl _)
    (by
      rw [show ((nxt c : Thread nD τ), sem (cRR h)) = kcell (nxt c, cRR h) from rfl, payload_eq]
      exact Entails.of_eq (pointsTo_congr (slot_copy m c (nxt c) (rsrc h) (rdst h) (r_org c h) f))))
    $$ [Hs Ht HO Hd1 Hd2]
  · isplitr; · iexact I1
    isplitr; · iexact I2
    isplitl [Hs]; · iexact Hs
    isplitl [Ht]; · iexact Ht
    isplitl [HO]; · iexact HO
    isplitl [Hd1]; · iexact Hd1
    isplitr; · iexact R1
    isplitl [Hd2]; · iexact Hd2
    iexact R2
  iintro ⟨Hc, HO⟩
  iapply Hk
  isplitl [Hc Hat]
  · unfold WT; isplitl [Hc]; · iexact Hc
    iexact Hat
  isplitl [HW]; · iexact HW
  iexists W; iexact HO

/-- A left copy. -/
theorem wp_sendL (h : Fin 7) (j : Fin 16) (hj : j = lsrc h) (n : ℕ) (hp : pays[n]? = some (false, cLR h)) {d : Dev nD} (hd : d = prv c)
    {src : Memref sig .tc .vmem S2x512x128 .bf16} (hs : src = slotM (lsrc h))
    {dst : Memref sig .tc .vmem S2x512x128 .bf16} (ht : dst = slotM (ldst h))
    {ss rs : SemLoc sig} (hss : ss = sem (cLS h)) (hrs : rs = sem (cLR h))
    {hsc : (dst : Memref sig (Dev.tc d : Thread nD τ).2.kind .vmem S2x512x128 .bf16).view.ref.isScScratch = false}
    {hsrc : src.view.WordExact} {hdst : dst.view.WordExact}
    {hsem : DmaTarget.Typed .vmem rs (.remote (Dev.tc d : Thread nD τ) dst ss hsc)}
    {α : Type} {Q : α → sProp 𝕄} {k : PUnit → Prog (TpuEff nD τ sig (Elt F) Λ₀ .tc) α} :
    iprop(records m K ∗ slotPts qB c j (kv m c) ∗ LTgt c h ∗ OW c n ∗ LPre c h)
      ⊢ iprop(((WT c (cLS h) ∗ WT c (cLR h) ∗ OW c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst ss hsc) rs hsrc hdst hsem) k) Q) := by
  subst hd hs ht hss hrs hj
  unfold LTgt LPre
  iintro ⟨#HR, Hs, ⟨%f, Ht⟩, HO, Hd1, Hd2, Hat, HW⟩ Hk
  ihave #I1 := (records_inv m K (c, cLS h)) $$ HR
  ihave #I2 := (records_inv m K (prv c, cLR h)) $$ HR
  ihave #R1 := (records_reached m K (c, cLS h)) $$ HR
  ihave #R2 := (records_reached m K (prv c, cLR h)) $$ HR
  unfold OW
  icases HO with ⟨%W, HO⟩
  unfold slotPts
  iapply (Rounds.wp_send_pointsTo 𝒱₀ ER (Rd m) (c : Thread nD τ) none (c' := (prv c : Thread nD τ)) (src := slotM (lsrc h)) (dst := slotM (ldst h)) (sS := sem (cLS h)) (sem := sem (cLR h))
    (O₀ := owedFrom c n) (κ₁ := K (c, cLS h)) (κ₂ := K (prv c, cLR h))
    (r₁ := 0) (r₂ := 0) (d₁ := false) (d₂ := false) (fd := f)
    (by rw [show ((c : Thread nD τ), sem (cLS h)) = kcell (c, cLS h) from rfl, duties_eq]; exact Finset.mem_singleton_self _)
    (by rw [show ((prv c : Thread nD τ), sem (cLR h)) = kcell (prv c, cLR h) from rfl, duties_eq]; exact Finset.mem_singleton_self _)
    () () N (amount_L _ h) (amount_eq m c (cLS h) false) (amount_eq m (prv c) (cLR h) false) (owedFrom c (n + 1)) (owedFrom_step c hp) (W := W)
    (by rw [show ((c : Thread nD τ), sem (cLS h)) = kcell (c, cLS h) from rfl, payload_eq]; exact BI.Entails.refl _)
    (by
      rw [show ((prv c : Thread nD τ), sem (cLR h)) = kcell (prv c, cLR h) from rfl, payload_eq]
      exact Entails.of_eq (pointsTo_congr (slot_copy m c (prv c) (lsrc h) (ldst h) (l_org c h) f))))
    $$ [Hs Ht HO Hd1 Hd2]
  · isplitr; · iexact I1
    isplitr; · iexact I2
    isplitl [Hs]; · iexact Hs
    isplitl [Ht]; · iexact Ht
    isplitl [HO]; · iexact HO
    isplitl [Hd1]; · iexact Hd1
    isplitr; · iexact R1
    isplitl [Hd2]; · iexact Hd2
    iexact R2
  iintro ⟨Hc, HO⟩
  iapply Hk
  isplitl [Hc Hat]
  · unfold WT; isplitl [Hc]; · iexact Hc
    iexact Hat
  isplitl [HW]; · iexact HW
  iexists W; iexact HO

/-! ## Waits -/

set_option maxRecDepth 10000 in
/-- The wait for a copy at cell `kc`: its credit and its round go in, what the copy brought comes out, and the cell is
    closed. -/
theorem wp_waitC (kc : Cell) (hk : kdut kc = {false}) (hN : kexp kc = N) (n : ℕ) (hp : ∀ p ∈ pays.drop n, klev kc < klev p.2)
    {q : DmaSem sig} (hq : sem kc = .dma q) {P : sProp 𝕄} (hP : pay m c kc false = P)
    {src dst : Memref sig .tc .vmem S2x512x128 .bf16} {hsrc : src.view.WordExact} {hdst : dst.view.WordExact} (hD : dst.view.dmaCredit = N)
    {α : Type} {Q : α → sProp 𝕄} {k : PUnit → Prog (TpuEff nD τ sig (Elt F) Λ₀ .tc) α} :
    iprop(records m K ∗ WT c kc ∗ OW c n)
      ⊢ iprop(((OW c n ∗ ZV c kc ∗ P) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hP
  have hcell : kcell (c, kc) = ((c : Thread nD τ), SemLoc.dma q) := by unfold kcell; rw [hq]
  unfold WT ZV
  iintro ⟨#HR, ⟨Hc, Hat⟩, HO⟩ Hk
  ihave #HI := (records_inv m K (c, kc)) $$ HR
  unfold OW
  icases HO with ⟨%W, HO⟩
  iapply (Rounds.wp_wait_rest_token 𝒱₀ ER (Rd m) (c : Thread nD τ) none (κ := K (c, kc))
      (wpE_waitDma2_eq 𝒱₀ (c : Thread nD τ) none Set.univ) (Set.mem_univ _) () (O := owedFrom c n) (W := W) (R := 0) (m := 0) (T := ∅)
      (by rw [Nat.zero_add, hD, ← hcell, expect_eq, hN])) $$ [Hc HO Hat]
  · rw [← hcell, hD]
    isplitr; · iexact HI
    isplitl [Hc]; · iexact Hc
    isplitl [HO]; · iexact HO
    isplitr; · iapply (records_mayWait m K c kc n hp hq); iexact HR
    iexact Hat
  rw [← hcell]
  iintro ⟨HO, Hat, -, Hpay⟩
  imod (Rounds.cell_close ER (Rd m) (Set.mem_univ (K (c, kc))) (fun h => h) (R := 0 + 1) (duties_later m (kcell (c, kc)))) $$ [Hat] with Hz
  · isplitr; · iexact HI
    iexact Hat
  iapply Hk
  isplitl [HO]; · iexists _; iexact HO
  isplitl [Hz]; · iexact Hz
  iapply (Entails.of_eq (rest_copy m c kc hk)); iexact Hpay

set_option maxRecDepth 10000 in
/-- The wait for both neighbours. -/
theorem wp_waitS (kc : Cell) (hk : kdut kc = Finset.univ) (hN : kexp kc = 2) (n : ℕ) (hp : ∀ p ∈ pays.drop n, klev kc < klev p.2)
    {q : Sem sig} (hq : sem kc = .reg q) {w : ℕ} (hw : w = 2)
    {α : Type} {Q : α → sProp 𝕄} {k : PUnit → Prog (TpuEff nD τ sig (Elt F) Λ₀ .tc) α} :
    iprop(records m K ∗ cred (tallyAt (kcell (c, kc)) () 2) ∗ atPos ER (kcell (c, kc)) 0 ∅ 0 ∗ OW c n)
      ⊢ iprop(((OW c n ∗ ZV c kc ∗ pay m c kc false ∗ pay m c kc true) -∗ wp frame (wpE (defs₀ (F := F)) 𝒱₀ (c : Thread nD τ) none) Set.univ (k ⟨⟩) Q)
          -∗ wp frame (wpE (defs₀ (F := F)) 𝒱₀ (c : Thread nD τ) none) Set.univ (.op (.semWait q w) k) Q) := by
  subst hw
  have hcell : kcell (c, kc) = ((c : Thread nD τ), SemLoc.reg q) := by unfold kcell; rw [hq]
  unfold ZV
  iintro ⟨#HR, Hc, Hat, HO⟩ Hk
  ihave #HI := (records_inv m K (c, kc)) $$ HR
  unfold OW
  icases HO with ⟨%W, HO⟩
  iapply (Rounds.wp_wait_rest_token 𝒱₀ ER (Rd m) (c : Thread nD τ) none (κ := K (c, kc))
      (wpE_semWait_eq 𝒱₀ (c : Thread nD τ) none Set.univ) (Set.mem_univ _) () (O := owedFrom c n) (W := W) (R := 0) (m := 0) (T := ∅)
      (by rw [Nat.zero_add, ← hcell, expect_eq, hN])) $$ [Hc HO Hat]
  · rw [← hcell]
    isplitr; · iexact HI
    isplitl [Hc]; · iexact Hc
    isplitl [HO]; · iexact HO
    isplitr; · iapply (records_mayWait m K c kc n hp hq); iexact HR
    iexact Hat
  rw [← hcell]
  iintro ⟨HO, Hat, -, Hpay⟩
  imod (Rounds.cell_close ER (Rd m) (Set.mem_univ (K (c, kc))) (fun h => h) (R := 0 + 1) (duties_later m (kcell (c, kc)))) $$ [Hat] with Hz
  · isplitr; · iexact HI
    iexact Hat
  iapply Hk
  isplitl [HO]; · iexists _; iexact HO
  isplitl [Hz]; · iexact Hz
  iapply (Entails.of_eq (rest_both m c kc hk)); iexact Hpay

/-! ## Signals -/

/-- A signal of one to a neighbour's cell `kc`, with what it carries. -/
theorem wp_sig (kc : Cell) (b : Bool) (hk : kdut kc = Finset.univ) (hA : kamt kc = 1) (n : ℕ) (hp : pays[n]? = some (b, kc))
    {d : Dev nD} (hd : d = nbr c b) {q : Sem sig} (hq : sem kc = .reg q) {w : ℕ} (hw : w = 1)
    {α : Type} {Q : α → sProp 𝕄} {k : PUnit → Prog (TpuEff nD τ sig (Elt F) Λ₀ .tc) α} :
    iprop(records m K ∗ dutyTok ER (kcell (nbr c b, kc)) 0 (!b) ∗ pay m (nbr c b) kc (!b) ∗ OW c n)
      ⊢ iprop((OW c (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc d : Thread nD τ) q w) k) Q) := by
  subst hd hw
  have hcell : kcell (nbr c b, kc) = ((nbr c b : Thread nD τ), SemLoc.reg q) := by unfold kcell; rw [hq]
  iintro ⟨#HR, Hd, Hpay, HO⟩ Hk
  ihave #HI := (records_inv m K (nbr c b, kc)) $$ HR
  ihave #Hr := (records_reached m K (nbr c b, kc)) $$ HR
  unfold OW
  icases HO with ⟨%W, HO⟩
  iapply (Rounds.wp_signal 𝒱₀ ER (Rd m) (c : Thread nD τ) none (dst := (nbr c b : Thread nD τ)) (sem := q) (k' := 1) (O₀ := owedFrom c n) (κ := K (nbr c b, kc)) (r := 0)
      (d := !b) (by rw [← hcell, duties_eq, hk]; exact Finset.mem_univ _) (by rw [← hcell, amount_eq, hA]) () (owedFrom c (n + 1))
      (by rw [← hcell, owedFrom_step c hp, hA])) $$ [Hd Hpay HO]
  · rw [← hcell, payload_eq]
    isplitr; · iexact HI
    isplitl [HO]; · iexact HO
    isplitl [Hd]; · iexact Hd
    isplitl [Hpay]; · iexact Hpay
    iexact Hr
  iintro HO
  iapply Hk
  iexists W; iexact HO

/-! ## Loads -/

/-- A load of slot `j`'s keys, at any share of it. -/
theorem wp_loadK (j : Fin 16) (q : PosShare TreeShare) {hl : scrM.view.LoadsAt (halfR j 0).toLoadRect}
    {α : Type} {Q : α → sProp 𝕄} {k : Vec F S1x1x512x128 .bf16 → Prog (TpuEff nD τ sig (Elt F) Λ₀ .tc) α} :
    (slotPts q c j (kv m c) : sProp 𝕄)
      ⊢ iprop((slotPts q c j (kv m c) -∗ wp frame (wpE (defs₀ (F := F)) 𝒱₀ (c : Thread nD τ) none) Set.univ (k (kb m (org c j.val))) Q)
          -∗ wp frame (wpE (defs₀ (F := F)) 𝒱₀ (c : Thread nD τ) none) Set.univ (.op (.load scrM (halfR j 0).toLoadRect hl) k) Q) := by
  unfold slotPts
  iintro H Hk
  iapply (wp_load 𝒱₀ (c : Thread nD τ) none Set.univ (m := scrM) (half_sub j 0)) $$ H
  rw [load_k]
  iexact Hk

/-- A load of slot `j`'s values, at any share of it. -/
theorem wp_loadV (j : Fin 16) (q : PosShare TreeShare) {hl : scrM.view.LoadsAt (halfR j 1).toLoadRect}
    {α : Type} {Q : α → sProp 𝕄} {k : Vec F S1x1x512x128 .bf16 → Prog (TpuEff nD τ sig (Elt F) Λ₀ .tc) α} :
    (slotPts q c j (kv m c) : sProp 𝕄)
      ⊢ iprop((slotPts q c j (kv m c) -∗ wp frame (wpE (defs₀ (F := F)) 𝒱₀ (c : Thread nD τ) none) Set.univ (k (vb m (org c j.val))) Q)
          -∗ wp frame (wpE (defs₀ (F := F)) 𝒱₀ (c : Thread nD τ) none) Set.univ (.op (.load scrM (halfR j 1).toLoadRect hl) k) Q) := by
  unfold slotPts
  iintro H Hk
  iapply (wp_load 𝒱₀ (c : Thread nD τ) none Set.univ (m := scrM) (half_sub j 1)) $$ H
  rw [load_v]
  iexact Hk

/-- The rectangle of a whole block. -/
abbrev blkR : Rect S512x128 := Rect.unit (s := S512x128) ![0, 0] S512x128.size inb_S512x128_S512x128_0_0
theorem blk_zero : (![0, 0] : Fin 2 → Nat) = fun _ => 0 := funext fun a => by fin_cases a <;> rfl

/-- A load of the staged queries. -/
theorem wp_loadB0 (X : (cc0_stg0_0 : Ref sig .tc).ty.Contents (Elt F)) {hl : (Memref.whole cc0_stg0_0 : Memref sig .tc .vmem S512x128 .f32).view.LoadsAt blkR.toLoadRect}
    {α : Type} {Q : α → sProp 𝕄} {k : Vec F S512x128 .f32 → Prog (TpuEff nD τ sig (Elt F) Λ₀ .tc) α} :
    ((((c : Thread nD τ).loc cc0_stg0_0) ↦{fullShare} X) : sProp 𝕄)
      ⊢ iprop(((((c : Thread nD τ).loc cc0_stg0_0) ↦{fullShare} X) -∗ wp frame (wpE (defs₀ (F := F)) 𝒱₀ (c : Thread nD τ) none) Set.univ (k X) Q)
          -∗ wp frame (wpE (defs₀ (F := F)) 𝒱₀ (c : Thread nD τ) none) Set.univ
              (.op (.load (Memref.whole cc0_stg0_0 : Memref sig .tc .vmem S512x128 .f32) blkR.toLoadRect hl) k) Q) := by
  iintro H Hk
  iapply (wp_load 𝒱₀ (c : Thread nD τ) none Set.univ (m := (Memref.whole cc0_stg0_0 : Memref sig .tc .vmem S512x128 .f32)) (Finset.subset_univ _)) $$ H
  rw [show (Memref.whole cc0_stg0_0 : Memref sig .tc .vmem S512x128 .f32).view.readAt (Elt F) blkR.toLoadRect X = X from
    Memref.readAt_unit_zero (Elt F) cc0_stg0_0 blk_zero _ _]
  iexact Hk

/-- A load of the staged keys. -/
theorem wp_loadB1 (X : (cc0_stg1_0 : Ref sig .tc).ty.Contents (Elt F)) {hl : (Memref.whole cc0_stg1_0 : Memref sig .tc .vmem S512x128 .f32).view.LoadsAt blkR.toLoadRect}
    {α : Type} {Q : α → sProp 𝕄} {k : Vec F S512x128 .f32 → Prog (TpuEff nD τ sig (Elt F) Λ₀ .tc) α} :
    ((((c : Thread nD τ).loc cc0_stg1_0) ↦{fullShare} X) : sProp 𝕄)
      ⊢ iprop(((((c : Thread nD τ).loc cc0_stg1_0) ↦{fullShare} X) -∗ wp frame (wpE (defs₀ (F := F)) 𝒱₀ (c : Thread nD τ) none) Set.univ (k X) Q)
          -∗ wp frame (wpE (defs₀ (F := F)) 𝒱₀ (c : Thread nD τ) none) Set.univ
              (.op (.load (Memref.whole cc0_stg1_0 : Memref sig .tc .vmem S512x128 .f32) blkR.toLoadRect hl) k) Q) := by
  iintro H Hk
  iapply (wp_load 𝒱₀ (c : Thread nD τ) none Set.univ (m := (Memref.whole cc0_stg1_0 : Memref sig .tc .vmem S512x128 .f32)) (Finset.subset_univ _)) $$ H
  rw [show (Memref.whole cc0_stg1_0 : Memref sig .tc .vmem S512x128 .f32).view.readAt (Elt F) blkR.toLoadRect X = X from
    Memref.readAt_unit_zero (Elt F) cc0_stg1_0 blk_zero _ _]
  iexact Hk

/-- A load of the staged values. -/
theorem wp_loadB2 (X : (cc0_stg2_0 : Ref sig .tc).ty.Contents (Elt F)) {hl : (Memref.whole cc0_stg2_0 : Memref sig .tc .vmem S512x128 .f32).view.LoadsAt blkR.toLoadRect}
    {α : Type} {Q : α → sProp 𝕄} {k : Vec F S512x128 .f32 → Prog (TpuEff nD τ sig (Elt F) Λ₀ .tc) α} :
    ((((c : Thread nD τ).loc cc0_stg2_0) ↦{fullShare} X) : sProp 𝕄)
      ⊢ iprop(((((c : Thread nD τ).loc cc0_stg2_0) ↦{fullShare} X) -∗ wp frame (wpE (defs₀ (F := F)) 𝒱₀ (c : Thread nD τ) none) Set.univ (k X) Q)
          -∗ wp frame (wpE (defs₀ (F := F)) 𝒱₀ (c : Thread nD τ) none) Set.univ
              (.op (.load (Memref.whole cc0_stg2_0 : Memref sig .tc .vmem S512x128 .f32) blkR.toLoadRect hl) k) Q) := by
  iintro H Hk
  iapply (wp_load 𝒱₀ (c : Thread nD τ) none Set.univ (m := (Memref.whole cc0_stg2_0 : Memref sig .tc .vmem S512x128 .f32)) (Finset.subset_univ _)) $$ H
  rw [show (Memref.whole cc0_stg2_0 : Memref sig .tc .vmem S512x128 .f32).view.readAt (Elt F) blkR.toLoadRect X = X from
    Memref.readAt_unit_zero (Elt F) cc0_stg2_0 blk_zero _ _]
  iexact Hk

/-- A load of the staged result's buffer. -/
theorem wp_loadB3 (X : (cc0_stg3_0 : Ref sig .tc).ty.Contents (Elt F)) {hl : (Memref.whole cc0_stg3_0 : Memref sig .tc .vmem S512x128 .f32).view.LoadsAt blkR.toLoadRect}
    {α : Type} {Q : α → sProp 𝕄} {k : Vec F S512x128 .f32 → Prog (TpuEff nD τ sig (Elt F) Λ₀ .tc) α} :
    ((((c : Thread nD τ).loc cc0_stg3_0) ↦{fullShare} X) : sProp 𝕄)
      ⊢ iprop(((((c : Thread nD τ).loc cc0_stg3_0) ↦{fullShare} X) -∗ wp frame (wpE (defs₀ (F := F)) 𝒱₀ (c : Thread nD τ) none) Set.univ (k X) Q)
          -∗ wp frame (wpE (defs₀ (F := F)) 𝒱₀ (c : Thread nD τ) none) Set.univ
              (.op (.load (Memref.whole cc0_stg3_0 : Memref sig .tc .vmem S512x128 .f32) blkR.toLoadRect hl) k) Q) := by
  iintro H Hk
  iapply (wp_load 𝒱₀ (c : Thread nD τ) none Set.univ (m := (Memref.whole cc0_stg3_0 : Memref sig .tc .vmem S512x128 .f32)) (Finset.subset_univ _)) $$ H
  rw [show (Memref.whole cc0_stg3_0 : Memref sig .tc .vmem S512x128 .f32).view.readAt (Elt F) blkR.toLoadRect X = X from
    Memref.readAt_unit_zero (Elt F) cc0_stg3_0 blk_zero _ _]
  iexact Hk

end Rules

end Cert.RingAttn

end
-- ==== Proof.Values.lean ====
/-
# The values the kernel holds, by the program's own numbers

`dN m c` is the value numbered `N` on device `c`: from the staged queries and from the keys and values of the blocks the
ring has brought (`kb`, `vb` at the device `org c j` the block in slot `j` is from). And the devices the copies address.
-/
module

public import proofs.«01_k».proof.Proof.Rules

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
variable (c : Dev nD)

def d86 : FVec F S512x128 .bf16 := k0_pay4 (qin m c)
def d87 : FVec F S512x1 .f32 := k0_pay5 (F := F)
def d88 : FVec F S512x128 .f32 := k0_pay6 (F := F)
def d110 : FVec F S512x128 .bf16 := k0_pay7 (kb m (org c (0 : Fin 16).val))
def d122 : FVec F S512x1 .f32 := k0_pay9 (d86 m c) (d87 (F := F)) (d110 m c)
def d125 : FVec F S512x128 .f32 := k0_pay10 (d86 m c) (d88 (F := F)) (d110 m c) (vb m (org c (0 : Fin 16).val))
def d187 : FVec F S512x1 .f32 := k0_pay12 (d86 m c) (d122 m c) (kb m (org c (1 : Fin 16).val))
def d190 : FVec F S512x128 .f32 := k0_pay13 (d86 m c) (d125 m c) (kb m (org c (1 : Fin 16).val)) (vb m (org c (1 : Fin 16).val))
def d204 : FVec F S512x1 .f32 := k0_pay15 (d86 m c) (d187 m c) (kb m (org c (15 : Fin 16).val))
def d207 : FVec F S512x128 .f32 := k0_pay16 (d86 m c) (d190 m c) (kb m (org c (15 : Fin 16).val)) (vb m (org c (15 : Fin 16).val))
def d269 : FVec F S512x1 .f32 := k0_pay18 (d86 m c) (d204 m c) (kb m (org c (2 : Fin 16).val))
def d271 : FVec F S512x128 .f32 := k0_pay19 (d86 m c) (kb m (org c (2 : Fin 16).val)) (vb m (org c (2 : Fin 16).val))
def d286 : FVec F S512x1 .f32 := k0_pay21 (d86 m c) (d269 m c) (kb m (org c (14 : Fin 16).val))
def d289 : FVec F S512x128 .f32 := k0_pay22 (d86 m c) (d207 m c) (d271 m c) (kb m (org c (14 : Fin 16).val)) (vb m (org c (14 : Fin 16).val))
def d341 : FVec F S512x128 .bf16 := k0_pay23 (vb m (org c (3 : Fin 16).val))
def d348 : FVec F S512x512 .f32 := k0_pay24 (d86 m c) (kb m (org c (3 : Fin 16).val))
def d350 : FVec F S512x1 .f32 := k0_pay25 (d86 m c) (kb m (org c (3 : Fin 16).val))
def d368 : FVec F S512x1 .f32 := k0_pay27 (d86 m c) (d286 m c) (d350 m c) (kb m (org c (13 : Fin 16).val))
def d371 : FVec F S512x128 .f32 := k0_pay28 (d86 m c) (d289 m c) (d341 m c) (d348 m c) (kb m (org c (13 : Fin 16).val)) (vb m (org c (13 : Fin 16).val))
def d423 : FVec F S512x128 .bf16 := k0_pay29 (vb m (org c (4 : Fin 16).val))
def d429 : FVec F S512x512 .f32 := k0_pay30 (d86 m c) (kb m (org c (4 : Fin 16).val))
def d450 : FVec F S512x1 .f32 := k0_pay33 (d86 m c) (d368 m c) (d429 m c) (kb m (org c (12 : Fin 16).val))
def d453 : FVec F S512x128 .f32 := k0_pay34 (d86 m c) (d371 m c) (d423 m c) (d429 m c) (kb m (org c (12 : Fin 16).val)) (vb m (org c (12 : Fin 16).val))
def d505 : FVec F S512x128 .bf16 := k0_pay35 (vb m (org c (5 : Fin 16).val))
def d507 : FVec F S512x512 .f32 := k0_pay36 (d86 m c) (kb m (org c (5 : Fin 16).val))
def d508 : FVec F S512x512 .f32 := k0_pay37 (F := F)
def d532 : FVec F S512x1 .f32 := k0_pay40 (d86 m c) (d450 m c) (d507 m c) (d508 (F := F)) (kb m (org c (11 : Fin 16).val))
def d535 : FVec F S512x128 .f32 := k0_pay41 (d86 m c) (d453 m c) (d505 m c) (d507 m c) (d508 (F := F)) (kb m (org c (11 : Fin 16).val)) (vb m (org c (11 : Fin 16).val))
def d587 : FVec F S512x128 .bf16 := k0_pay42 (vb m (org c (6 : Fin 16).val))
def d588 : FVec F S128x512 .bf16 := k0_pay43 (kb m (org c (6 : Fin 16).val))
def d614 : FVec F S512x1 .f32 := k0_pay46 (d86 m c) (d532 m c) (d588 m c) (kb m (org c (10 : Fin 16).val))
def d617 : FVec F S512x128 .f32 := k0_pay47 (d86 m c) (d535 m c) (d587 m c) (d588 m c) (kb m (org c (10 : Fin 16).val)) (vb m (org c (10 : Fin 16).val))
def d669 : FVec F S512x1 .f32 := k0_pay49 (d86 m c) (d614 m c) (kb m (org c (7 : Fin 16).val))
def d672 : FVec F S512x128 .f32 := k0_pay50 (d86 m c) (d617 m c) (kb m (org c (7 : Fin 16).val)) (vb m (org c (7 : Fin 16).val))
def d686 : FVec F S512x1 .f32 := k0_pay52 (d86 m c) (d669 m c) (kb m (org c (9 : Fin 16).val))
def d689 : FVec F S512x128 .f32 := k0_pay53 (d86 m c) (d672 m c) (kb m (org c (9 : Fin 16).val)) (vb m (org c (9 : Fin 16).val))
def d707 : FVec F S512x128 .bf16 := k0_pay54 (vb m (org c (8 : Fin 16).val))
def d717 : FVec F S512x1 .f32 := k0_pay56 (d86 m c) (d686 m c) (kb m (org c (8 : Fin 16).val))
def d718 : FVec F S512x512 .bf16 := k0_pay57 (d86 m c) (kb m (org c (8 : Fin 16).val))
/-- The block of the result. -/
def outv : FVec F S512x128 .f32 := k0_pay1 (d689 m c) (d707 m c) (d717 m c) (d718 m c)

theorem dev1_eq : (⟨k0_dev1 c, k0_dev1_lt c⟩ : Dev nD) = prv c := by revert c; decide
theorem dev2_eq : (⟨k0_dev2 c, k0_dev2_lt c⟩ : Dev nD) = nxt c := by revert c; decide
theorem dev3_eq : (⟨k0_dev3 c, k0_dev3_lt c⟩ : Dev nD) = nxt c := by revert c; decide
theorem dev4_eq : (⟨k0_dev4 c, k0_dev4_lt c⟩ : Dev nD) = prv c := by revert c; decide
theorem dev5_eq : (⟨k0_dev5 c, k0_dev5_lt c⟩ : Dev nD) = nxt c := by revert c; decide
theorem dev6_eq : (⟨k0_dev6 c, k0_dev6_lt c⟩ : Dev nD) = prv c := by revert c; decide
theorem dev7_eq : (⟨k0_dev7 c, k0_dev7_lt c⟩ : Dev nD) = nxt c := by revert c; decide
theorem dev8_eq : (⟨k0_dev8 c, k0_dev8_lt c⟩ : Dev nD) = prv c := by revert c; decide
theorem dev9_eq : (⟨k0_dev9 c, k0_dev9_lt c⟩ : Dev nD) = nxt c := by revert c; decide
theorem dev10_eq : (⟨k0_dev10 c, k0_dev10_lt c⟩ : Dev nD) = prv c := by revert c; decide
theorem dev11_eq : (⟨k0_dev11 c, k0_dev11_lt c⟩ : Dev nD) = nxt c := by revert c; decide
theorem dev12_eq : (⟨k0_dev12 c, k0_dev12_lt c⟩ : Dev nD) = prv c := by revert c; decide
theorem dev13_eq : (⟨k0_dev13 c, k0_dev13_lt c⟩ : Dev nD) = nxt c := by revert c; decide
theorem dev14_eq : (⟨k0_dev14 c, k0_dev14_lt c⟩ : Dev nD) = prv c := by revert c; decide
theorem dev15_eq : (⟨k0_dev15 c, k0_dev15_lt c⟩ : Dev nD) = nxt c := by revert c; decide
theorem dev16_eq : (⟨k0_dev16 c, k0_dev16_lt c⟩ : Dev nD) = prv c := by revert c; decide
theorem dev17_eq : (⟨k0_dev17 c, k0_dev17_lt c⟩ : Dev nD) = nxt c := by revert c; decide
theorem dev18_eq : (⟨k0_dev18 c, k0_dev18_lt c⟩ : Dev nD) = prv c := by revert c; decide
theorem dev19_eq : (⟨k0_dev19 c, k0_dev19_lt c⟩ : Dev nD) = nxt c := by revert c; decide

end Cert.RingAttn

end
-- ==== Proof.Ends.lean ====
/-
# The kernel's first parts

Parts 1 and 2 only compute which device this is. Part 3 is the handshake with both neighbours, which gives away the slots
they will write, and the two stores that put the device's own keys and values into slot 0.
-/
module

public import proofs.«01_k».proof.Proof.Values

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × Cell → ℕ) (c : Dev nD)

omit [FloatOps F] [Named F] in
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [bigSep_eq_bigSepL_of_eq [0, 1, 2, 3, 4, 5, 6, 7] (by decide) (by decide)]; rfl
omit [FloatOps F] [Named F] in
theorem bigSep_seven (Φ : Fin 7 → sProp 𝕄) :
    bigSep Finset.univ Φ = iprop(Φ 0 ∗ Φ 1 ∗ Φ 2 ∗ Φ 3 ∗ Φ 4 ∗ Φ 5 ∗ Φ 6) := by
  rw [bigSep_eq_bigSepL_of_eq [0, 1, 2, 3, 4, 5, 6] (by decide) (by decide)]; rfl
omit [FloatOps F] [Named F] in
theorem bigSep_sixteen (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [bigSep_eq_bigSepL_of_eq [0, 1, 2, 3, 4, 5, 6, 7, 8, 9, 10, 11, 12, 13, 14, 15] (by decide) (by decide)]; rfl

theorem toInt_one : (1#32 : BitVec 32).toInt = ((1 : ℕ) : ℤ) := rfl
theorem toInt_two : (2#32 : BitVec 32).toInt = ((2 : ℕ) : ℤ) := rfl

theorem part1 {Q : _ → sProp 𝕄} :
    iprop(∀ v2 v26 v28, Q ⟨c, v2, v26, v28⟩)
      ⊢ wp frame (wpE (defs₀ (F := F)) 𝒱₀ (c : Thread nD τ) none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0) Q := by
  rw [k0_part1_eq_skeleton]; unfold k0_part1_skel
  simp only [Prog.lift, Prog.bind_op, Prog.bind_ret, Prog.pure_eq_ret, Prog.bind_assoc, wp_deviceId]
  rw [wp_ret]
  iintro H; imodintro; iapply H

theorem part2 (v2 v26 v28 : BitVec 32) {Q : _ → sProp 𝕄} :
    iprop(∀ v56 v58, Q ⟨v56, v58⟩)
      ⊢ wp frame (wpE (defs₀ (F := F)) 𝒱₀ (c : Thread nD τ) none) Set.univ (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 v2 v26 v28) Q := by
  rw [k0_part2_eq_skeleton]; unfold k0_part2_skel
  simp only [Prog.lift, Prog.bind_op, Prog.bind_ret, Prog.pure_eq_ret, Prog.bind_assoc]
  rw [wp_ret]
  iintro H; imodintro; iapply H

/-- What device `c` holds of a semaphore that both neighbours signal: what it signals them with, and its own wait. -/
def Shake (kc : Cell) : sProp 𝕄 :=
  iprop(dutyTok ER (kcell (nbr c false, kc)) 0 true ∗ dutyTok ER (kcell (nbr c true, kc)) 0 false
    ∗ cred (tallyAt (kcell (c, kc)) () 2) ∗ atPos ER (kcell (c, kc)) 0 ∅ 0)

set_option maxRecDepth 10000 in
theorem part3 (v2 v56 v58 : BitVec 32) (f : (cc0_scratch0 : Ref sig .tc).ty.Contents (Elt F)) {Q : _ → sProp 𝕄} :
    iprop(records m K ∗ Shake c cBar ∗ OW c 0 ∗ pay m (nbr c false) cBar true ∗ pay m (nbr c true) cBar false
        ∗ (((c : Thread nD τ).loc cc0_stg1_0) ↦{fullShare} kin m c) ∗ (((c : Thread nD τ).loc cc0_stg2_0) ↦{fullShare} vin m c)
        ∗ slotPts fullShare c (0 : Fin 16) f)
      ⊢ iprop((∀ v64 v66, (OW c 2 ∗ ZV c cBar ∗ pay m c cBar false ∗ pay m c cBar true
        ∗ (((c : Thread nD τ).loc cc0_stg1_0) ↦{fullShare} kin m c) ∗ (((c : Thread nD τ).loc cc0_stg2_0) ↦{fullShare} vin m c)
        ∗ slotPts fullShare c (0 : Fin 16) (kv m c)) -∗ Q ⟨v64, v66⟩)
          -∗ wp frame (wpE (defs₀ (F := F)) 𝒱₀ (c : Thread nD τ) none) Set.univ (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 c v2 v56 v58) Q) := by
  rw [k0_part3_eq_skeleton]; unfold k0_part3_skel
  simp only [semSignalWord, semWaitWord, Prog.lift, Prog.bind_op, Prog.bind_ret, Prog.pure_eq_ret, Prog.bind_assoc, toInt_one, toInt_two]
  unfold Shake
  iintro ⟨#HR, ⟨D1, D2, Hc, Hat⟩, HO, P1, P2, HK, HV, S⟩ Hk
  iapply (wp_sig m K c cBar false rfl rfl 0 rfl (dev1_eq c) rfl (w := 1) rfl) $$ [D1 P1 HO]
  · isplitr; · iexact HR
    isplitl [D1]; · iexact D1
    isplitl [P1]; · iexact P1
    iexact HO
  iintro HO
  iapply (wp_sig m K c cBar true rfl rfl 1 rfl (dev2_eq c) rfl (w := 1) rfl) $$ [D2 P2 HO]
  · isplitr; · iexact HR
    isplitl [D2]; · iexact D2
    isplitl [P2]; · iexact P2
    iexact HO
  iintro HO
  iapply (wp_waitS m K c cBar rfl rfl 2 (by decide) rfl (w := 2) rfl) $$ [Hc Hat HO]
  · isplitr; · iexact HR
    isplitl [Hc]; · iexact Hc
    isplitl [Hat]; · iexact Hat
    iexact HO
  iintro ⟨HO, Z, Q1, Q2⟩
  iapply (wp_loadB1 c _) $$ HK; iintro HK
  unfold slotPts
  iapply (wp_load 𝒱₀ (c : Thread nD τ) none Set.univ (m := scrM) (half_sub 0 0)) $$ S; iintro S
  iapply (wp_store 𝒱₀ (c : Thread nD τ) none Set.univ (m := scrM) (r := halfR 0 0) (Mk := Finset.univ) (half_sub_access 0 0)) $$ S; iintro S
  iapply (wp_loadB2 c _) $$ HV; iintro HV
  iapply (wp_load 𝒱₀ (c : Thread nD τ) none Set.univ (m := scrM) (half_sub 0 1)) $$ S; iintro S
  iapply (wp_store 𝒱₀ (c : Thread nD τ) none Set.univ (m := scrM) (r := halfR 0 1) (Mk := Finset.univ) (half_sub_access 0 1)) $$ S; iintro S
  rw [wp_ret]; imodintro
  ihave S := (Entails.of_eq (pointsTo_congr (slot_own m c f))) $$ S
  iapply Hk
  isplitl [HO]; · iexact HO
  isplitl [Z]; · iexact Z
  isplitl [Q1]; · iexact Q1
  isplitl [Q2]; · iexact Q2
  isplitl [HK]; · iexact HK
  isplitl [HV]; · iexact HV
  iexact S

end Cert.RingAttn

end
-- ==== Proof.PartsA.lean ====
/-
# The kernel's body part by part: parts 4 to 12

Each theorem runs one part on device `c`: what the part takes of the device's semaphores, slots and debts, and what it
leaves.
-/
module

public import proofs.«01_k».proof.Proof.Values

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × Cell → ℕ) (c : Dev nD)

set_option maxRecDepth 10000 in
theorem part4 (v64 v66 : BitVec 32) {Q : _ → sProp 𝕄} :
    iprop(records m K ∗ (((c : Thread nD τ).loc cc0_stg0_0) ↦{fullShare} qin m c) ∗ slotPts fullShare c (0 : Fin 16) (kv m c) ∗ RTgt c 0 ∗ OW c 2 ∗ RPre c 0 ∗ LTgt c 0 ∗ LPre c 0)
      ⊢ iprop(((slotPts qC c (0 : Fin 16) (kv m c) ∗ OW c 4 ∗ (((c : Thread nD τ).loc cc0_stg0_0) ↦{fullShare} qin m c) ∗ WT c (cLR 0) ∗ WT c (cLS 0) ∗ WT c (cRR 0) ∗ WT c (cRS 0)) -∗ Q ⟨d86 m c, d87 (F := F), d88 (F := F), d110 m c⟩)
          -∗ wp frame (wpE (defs₀ (F := F)) 𝒱₀ (c : Thread nD τ) none) Set.univ
            (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 c v64 v66) Q) := by
  rw [k0_part4_eq_skeleton]; unfold k0_part4_skel
  simp only [semSignalWord, semWaitWord, Prog.lift, Prog.bind_op, Prog.bind_ret, Prog.pure_eq_ret, Prog.bind_assoc]
  unfold d86 d110 d87 d88
  iintro ⟨#HR, HQ, S0, TR0, HO, PR0, TL0, PL0⟩ Hk
  iapply (wp_loadB0 c _) $$ HQ; iintro HQ
  ihave H := (slot_shares c (0 : Fin 16) (kv m c)).1 $$ S0; icases H with ⟨A0, B0, C0⟩
  iapply (wp_sendR m K c 0 (0 : Fin 16) rfl 2 rfl (dev3_eq c) (src := slotM (0 : Fin 16)) (dst := slotM (1 : Fin 16)) rfl rfl rfl rfl) $$ [A0 TR0 HO PR0]
  · isplitr; · iexact HR
    isplitl [A0]; · iexact A0
    isplitl [TR0]; · iexact TR0
    isplitl [HO]; · iexact HO
    iexact PR0
  iintro ⟨WRS0, WRR0, HO⟩
  iapply (wp_sendL m K c 0 (0 : Fin 16) rfl 3 rfl (dev4_eq c) (src := slotM (0 : Fin 16)) (dst := slotM (15 : Fin 16)) rfl rfl rfl rfl) $$ [B0 TL0 HO PL0]
  · isplitr; · iexact HR
    isplitl [B0]; · iexact B0
    isplitl [TL0]; · iexact TL0
    isplitl [HO]; · iexact HO
    iexact PL0
  iintro ⟨WLS0, WLR0, HO⟩
  iapply (wp_loadK m c (0 : Fin 16) qC) $$ C0; iintro C0
  rw [wp_ret]; imodintro; iapply Hk
  isplitl [C0]; · iexact C0
  isplitl [HO]; · iexact HO
  isplitl [HQ]; · iexact HQ
  isplitl [WLR0]; · iexact WLR0
  isplitl [WLS0]; · iexact WLS0
  isplitl [WRR0]; · iexact WRR0
  iexact WRS0

set_option maxRecDepth 10000 in
theorem part5 (v64 : BitVec 32) {Q : _ → sProp 𝕄} :
    iprop(records m K ∗ slotPts qC c (0 : Fin 16) (kv m c) ∗ WT c (cRS 0) ∗ OW c 4)
      ⊢ iprop(((slotPts qA c (0 : Fin 16) (kv m c) ∗ slotPts qC c (0 : Fin 16) (kv m c) ∗ OW c 4 ∗ ZV c (cRS 0)) -∗ Q ⟨d122 m c, d125 m c⟩)
          -∗ wp frame (wpE (defs₀ (F := F)) 𝒱₀ (c : Thread nD τ) none) Set.univ
            (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 v64 (d86 m c) (d87 (F := F)) (d88 (F := F)) (d110 m c)) Q) := by
  rw [k0_part5_eq_skeleton]; unfold k0_part5_skel
  simp only [semSignalWord, semWaitWord, Prog.lift, Prog.bind_op, Prog.bind_ret, Prog.pure_eq_ret, Prog.bind_assoc]
  unfold d122 d125
  iintro ⟨#HR, C0, WRS0, HO⟩ Hk
  iapply (wp_loadV m c (0 : Fin 16) qC) $$ C0; iintro C0
  iapply (wp_waitC m K c (cRS 0) rfl rfl 4 (by decide) rfl (P := slotPts qA c (0 : Fin 16) (kv m c)) rfl (src := slotM (1 : Fin 16)) (dst := slotM (0 : Fin 16)) rfl) $$ [WRS0 HO]
  · isplitr; · iexact HR
    isplitl [WRS0]; · iexact WRS0
    iexact HO
  iintro ⟨HO, ZRS0, A0⟩
  rw [wp_ret]; imodintro; iapply Hk
  isplitl [A0]; · iexact A0
  isplitl [C0]; · iexact C0
  isplitl [HO]; · iexact HO
  iexact ZRS0

set_option maxRecDepth 10000 in
theorem part6 (v64 v66 : BitVec 32) {Q : _ → sProp 𝕄} :
    iprop(records m K ∗ WT c (cRR 0) ∗ OW c 4 ∗ WT c (cLS 0) ∗ slotPts qA c (0 : Fin 16) (kv m c) ∗ slotPts qC c (0 : Fin 16) (kv m c) ∗ WT c (cLR 0))
      ⊢ iprop(((OW c 4 ∗ slotPts fullShare c (0 : Fin 16) (kv m c) ∗ slotPts fullShare c (1 : Fin 16) (kv m c) ∗ slotPts fullShare c (15 : Fin 16) (kv m c) ∗ ZV c (cLR 0) ∗ ZV c (cLS 0) ∗ ZV c (cRR 0)) -∗ Q ⟨⟩)
          -∗ wp frame (wpE (defs₀ (F := F)) 𝒱₀ (c : Thread nD τ) none) Set.univ
            (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 v64 v66) Q) := by
  rw [k0_part6_eq_skeleton]; unfold k0_part6_skel
  simp only [semSignalWord, semWaitWord, Prog.lift, Prog.bind_op, Prog.bind_ret, Prog.pure_eq_ret, Prog.bind_assoc]
  iintro ⟨#HR, WRR0, HO, WLS0, A0, C0, WLR0⟩ Hk
  iapply (wp_waitC m K c (cRR 0) rfl rfl 4 (by decide) rfl (P := slotPts fullShare c (1 : Fin 16) (kv m c)) rfl (src := slotM (0 : Fin 16)) (dst := slotM (1 : Fin 16)) rfl) $$ [WRR0 HO]
  · isplitr; · iexact HR
    isplitl [WRR0]; · iexact WRR0
    iexact HO
  iintro ⟨HO, ZRR0, S1⟩
  iapply (wp_waitC m K c (cLS 0) rfl rfl 4 (by decide) rfl (P := slotPts qB c (0 : Fin 16) (kv m c)) rfl (src := slotM (15 : Fin 16)) (dst := slotM (0 : Fin 16)) rfl) $$ [WLS0 HO]
  · isplitr; · iexact HR
    isplitl [WLS0]; · iexact WLS0
    iexact HO
  iintro ⟨HO, ZLS0, B0⟩
  ihave S0 := (slot_shares c (0 : Fin 16) (kv m c)).2 $$ [A0 B0 C0]
  · isplitl [A0]; · iexact A0
    isplitl [B0]; · iexact B0
    iexact C0
  iapply (wp_waitC m K c (cLR 0) rfl rfl 4 (by decide) rfl (P := slotPts fullShare c (15 : Fin 16) (kv m c)) rfl (src := slotM (0 : Fin 16)) (dst := slotM (15 : Fin 16)) rfl) $$ [WLR0 HO]
  · isplitr; · iexact HR
    isplitl [WLR0]; · iexact WLR0
    iexact HO
  iintro ⟨HO, ZLR0, S15⟩
  rw [wp_ret]; imodintro; iapply Hk
  isplitl [HO]; · iexact HO
  isplitl [S0]; · iexact S0
  isplitl [S1]; · iexact S1
  isplitl [S15]; · iexact S15
  isplitl [ZLR0]; · iexact ZLR0
  isplitl [ZLS0]; · iexact ZLS0
  iexact ZRR0

set_option maxRecDepth 10000 in
theorem part7 (v66 : BitVec 32) {Q : _ → sProp 𝕄} :
    iprop(records m K ∗ slotPts fullShare c (1 : Fin 16) (kv m c) ∗ RTgt c 1 ∗ OW c 4 ∗ RPre c 1 ∗ slotPts fullShare c (15 : Fin 16) (kv m c) ∗ LTgt c 1 ∗ LPre c 1)
      ⊢ iprop(((slotPts qA c (15 : Fin 16) (kv m c) ∗ slotPts qB c (1 : Fin 16) (kv m c) ∗ slotPts qC c (1 : Fin 16) (kv m c) ∗ slotPts qC c (15 : Fin 16) (kv m c) ∗ OW c 6 ∗ WT c (cLR 1) ∗ WT c (cLS 1) ∗ WT c (cRR 1) ∗ WT c (cRS 1)) -∗ Q ⟨d187 m c, d190 m c⟩)
          -∗ wp frame (wpE (defs₀ (F := F)) 𝒱₀ (c : Thread nD τ) none) Set.univ
            (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 c v66 (d86 m c) (d122 m c) (d125 m c)) Q) := by
  rw [k0_part7_eq_skeleton]; unfold k0_part7_skel
  simp only [semSignalWord, semWaitWord, Prog.lift, Prog.bind_op, Prog.bind_ret, Prog.pure_eq_ret, Prog.bind_assoc]
  unfold d187 d190
  iintro ⟨#HR, S1, TR1, HO, PR1, S15, TL1, PL1⟩ Hk
  ihave H := (slot_shares c (1 : Fin 16) (kv m c)).1 $$ S1; icases H with ⟨A1, B1, C1⟩
  iapply (wp_sendR m K c 1 (1 : Fin 16) rfl 4 rfl (dev5_eq c) (src := slotM (1 : Fin 16)) (dst := slotM (2 : Fin 16)) rfl rfl rfl rfl) $$ [A1 TR1 HO PR1]
  · isplitr; · iexact HR
    isplitl [A1]; · iexact A1
    isplitl [TR1]; · iexact TR1
    isplitl [HO]; · iexact HO
    iexact PR1
  iintro ⟨WRS1, WRR1, HO⟩
  ihave H := (slot_shares c (15 : Fin 16) (kv m c)).1 $$ S15; icases H with ⟨A15, B15, C15⟩
  iapply (wp_sendL m K c 1 (15 : Fin 16) rfl 5 rfl (dev6_eq c) (src := slotM (15 : Fin 16)) (dst := slotM (14 : Fin 16)) rfl rfl rfl rfl) $$ [B15 TL1 HO PL1]
  · isplitr; · iexact HR
    isplitl [B15]; · iexact B15
    isplitl [TL1]; · iexact TL1
    isplitl [HO]; · iexact HO
    iexact PL1
  iintro ⟨WLS1, WLR1, HO⟩
  iapply (wp_loadK m c (1 : Fin 16) qC) $$ C1; iintro C1
  iapply (wp_loadV m c (1 : Fin 16) qC) $$ C1; iintro C1
  rw [wp_ret]; imodintro; iapply Hk
  isplitl [A15]; · iexact A15
  isplitl [B1]; · iexact B1
  isplitl [C1]; · iexact C1
  isplitl [C15]; · iexact C15
  isplitl [HO]; · iexact HO
  isplitl [WLR1]; · iexact WLR1
  isplitl [WLS1]; · iexact WLS1
  isplitl [WRR1]; · iexact WRR1
  iexact WRS1

set_option maxRecDepth 10000 in
theorem part8 (v64 : BitVec 32) {Q : _ → sProp 𝕄} :
    iprop(records m K ∗ slotPts qC c (15 : Fin 16) (kv m c) ∗ WT c (cRS 1) ∗ OW c 6 ∗ slotPts qB c (1 : Fin 16) (kv m c) ∗ slotPts qC c (1 : Fin 16) (kv m c))
      ⊢ iprop(((slotPts qC c (15 : Fin 16) (kv m c) ∗ OW c 6 ∗ slotPts fullShare c (1 : Fin 16) (kv m c) ∗ ZV c (cRS 1)) -∗ Q ⟨d204 m c, d207 m c⟩)
          -∗ wp frame (wpE (defs₀ (F := F)) 𝒱₀ (c : Thread nD τ) none) Set.univ
            (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 v64 (d86 m c) (d187 m c) (d190 m c)) Q) := by
  rw [k0_part8_eq_skeleton]; unfold k0_part8_skel
  simp only [semSignalWord, semWaitWord, Prog.lift, Prog.bind_op, Prog.bind_ret, Prog.pure_eq_ret, Prog.bind_assoc]
  unfold d204 d207
  iintro ⟨#HR, C15, WRS1, HO, B1, C1⟩ Hk
  iapply (wp_loadK m c (15 : Fin 16) qC) $$ C15; iintro C15
  iapply (wp_loadV m c (15 : Fin 16) qC) $$ C15; iintro C15
  iapply (wp_waitC m K c (cRS 1) rfl rfl 6 (by decide) rfl (P := slotPts qA c (1 : Fin 16) (kv m c)) rfl (src := slotM (2 : Fin 16)) (dst := slotM (1 : Fin 16)) rfl) $$ [WRS1 HO]
  · isplitr; · iexact HR
    isplitl [WRS1]; · iexact WRS1
    iexact HO
  iintro ⟨HO, ZRS1, A1⟩
  ihave S1 := (slot_shares c (1 : Fin 16) (kv m c)).2 $$ [A1 B1 C1]
  · isplitl [A1]; · iexact A1
    isplitl [B1]; · iexact B1
    iexact C1
  rw [wp_ret]; imodintro; iapply Hk
  isplitl [C15]; · iexact C15
  isplitl [HO]; · iexact HO
  isplitl [S1]; · iexact S1
  iexact ZRS1

set_option maxRecDepth 10000 in
theorem part9 (v64 v66 : BitVec 32) {Q : _ → sProp 𝕄} :
    iprop(records m K ∗ WT c (cRR 1) ∗ OW c 6 ∗ WT c (cLS 1) ∗ slotPts qA c (15 : Fin 16) (kv m c) ∗ slotPts qC c (15 : Fin 16) (kv m c) ∗ WT c (cLR 1))
      ⊢ iprop(((OW c 6 ∗ slotPts fullShare c (14 : Fin 16) (kv m c) ∗ slotPts fullShare c (15 : Fin 16) (kv m c) ∗ slotPts fullShare c (2 : Fin 16) (kv m c) ∗ ZV c (cLR 1) ∗ ZV c (cLS 1) ∗ ZV c (cRR 1)) -∗ Q ⟨⟩)
          -∗ wp frame (wpE (defs₀ (F := F)) 𝒱₀ (c : Thread nD τ) none) Set.univ
            (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 v64 v66) Q) := by
  rw [k0_part9_eq_skeleton]; unfold k0_part9_skel
  simp only [semSignalWord, semWaitWord, Prog.lift, Prog.bind_op, Prog.bind_ret, Prog.pure_eq_ret, Prog.bind_assoc]
  iintro ⟨#HR, WRR1, HO, WLS1, A15, C15, WLR1⟩ Hk
  iapply (wp_waitC m K c (cRR 1) rfl rfl 6 (by decide) rfl (P := slotPts fullShare c (2 : Fin 16) (kv m c)) rfl (src := slotM (1 : Fin 16)) (dst := slotM (2 : Fin 16)) rfl) $$ [WRR1 HO]
  · isplitr; · iexact HR
    isplitl [WRR1]; · iexact WRR1
    iexact HO
  iintro ⟨HO, ZRR1, S2⟩
  iapply (wp_waitC m K c (cLS 1) rfl rfl 6 (by decide) rfl (P := slotPts qB c (15 : Fin 16) (kv m c)) rfl (src := slotM (14 : Fin 16)) (dst := slotM (15 : Fin 16)) rfl) $$ [WLS1 HO]
  · isplitr; · iexact HR
    isplitl [WLS1]; · iexact WLS1
    iexact HO
  iintro ⟨HO, ZLS1, B15⟩
  ihave S15 := (slot_shares c (15 : Fin 16) (kv m c)).2 $$ [A15 B15 C15]
  · isplitl [A15]; · iexact A15
    isplitl [B15]; · iexact B15
    iexact C15
  iapply (wp_waitC m K c (cLR 1) rfl rfl 6 (by decide) rfl (P := slotPts fullShare c (14 : Fin 16) (kv m c)) rfl (src := slotM (15 : Fin 16)) (dst := slotM (14 : Fin 16)) rfl) $$ [WLR1 HO]
  · isplitr; · iexact HR
    isplitl [WLR1]; · iexact WLR1
    iexact HO
  iintro ⟨HO, ZLR1, S14⟩
  rw [wp_ret]; imodintro; iapply Hk
  isplitl [HO]; · iexact HO
  isplitl [S14]; · iexact S14
  isplitl [S15]; · iexact S15
  isplitl [S2]; · iexact S2
  isplitl [ZLR1]; · iexact ZLR1
  isplitl [ZLS1]; · iexact ZLS1
  iexact ZRR1

set_option maxRecDepth 10000 in
theorem part10 (v66 : BitVec 32) {Q : _ → sProp 𝕄} :
    iprop(records m K ∗ slotPts fullShare c (2 : Fin 16) (kv m c) ∗ RTgt c 2 ∗ OW c 6 ∗ RPre c 2 ∗ slotPts fullShare c (14 : Fin 16) (kv m c) ∗ LTgt c 2 ∗ LPre c 2)
      ⊢ iprop(((slotPts qA c (14 : Fin 16) (kv m c) ∗ slotPts qB c (2 : Fin 16) (kv m c) ∗ slotPts qC c (14 : Fin 16) (kv m c) ∗ slotPts qC c (2 : Fin 16) (kv m c) ∗ OW c 8 ∗ WT c (cLR 2) ∗ WT c (cLS 2) ∗ WT c (cRR 2) ∗ WT c (cRS 2)) -∗ Q ⟨d269 m c, d271 m c⟩)
          -∗ wp frame (wpE (defs₀ (F := F)) 𝒱₀ (c : Thread nD τ) none) Set.univ
            (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 c v66 (d86 m c) (d204 m c)) Q) := by
  rw [k0_part10_eq_skeleton]; unfold k0_part10_skel
  simp only [semSignalWord, semWaitWord, Prog.lift, Prog.bind_op, Prog.bind_ret, Prog.pure_eq_ret, Prog.bind_assoc]
  unfold d269 d271
  iintro ⟨#HR, S2, TR2, HO, PR2, S14, TL2, PL2⟩ Hk
  ihave H := (slot_shares c (2 : Fin 16) (kv m c)).1 $$ S2; icases H with ⟨A2, B2, C2⟩
  iapply (wp_sendR m K c 2 (2 : Fin 16) rfl 6 rfl (dev7_eq c) (src := slotM (2 : Fin 16)) (dst := slotM (3 : Fin 16)) rfl rfl rfl rfl) $$ [A2 TR2 HO PR2]
  · isplitr; · iexact HR
    isplitl [A2]; · iexact A2
    isplitl [TR2]; · iexact TR2
    isplitl [HO]; · iexact HO
    iexact PR2
  iintro ⟨WRS2, WRR2, HO⟩
  ihave H := (slot_shares c (14 : Fin 16) (kv m c)).1 $$ S14; icases H with ⟨A14, B14, C14⟩
  iapply (wp_sendL m K c 2 (14 : Fin 16) rfl 7 rfl (dev8_eq c) (src := slotM (14 : Fin 16)) (dst := slotM (13 : Fin 16)) rfl rfl rfl rfl) $$ [B14 TL2 HO PL2]
  · isplitr; · iexact HR
    isplitl [B14]; · iexact B14
    isplitl [TL2]; · iexact TL2
    isplitl [HO]; · iexact HO
    iexact PL2
  iintro ⟨WLS2, WLR2, HO⟩
  iapply (wp_loadK m c (2 : Fin 16) qC) $$ C2; iintro C2
  iapply (wp_loadV m c (2 : Fin 16) qC) $$ C2; iintro C2
  rw [wp_ret]; imodintro; iapply Hk
  isplitl [A14]; · iexact A14
  isplitl [B2]; · iexact B2
  isplitl [C14]; · iexact C14
  isplitl [C2]; · iexact C2
  isplitl [HO]; · iexact HO
  isplitl [WLR2]; · iexact WLR2
  isplitl [WLS2]; · iexact WLS2
  isplitl [WRR2]; · iexact WRR2
  iexact WRS2

set_option maxRecDepth 10000 in
theorem part11 (v64 : BitVec 32) {Q : _ → sProp 𝕄} :
    iprop(records m K ∗ slotPts qC c (14 : Fin 16) (kv m c) ∗ WT c (cRS 2) ∗ OW c 8 ∗ slotPts qB c (2 : Fin 16) (kv m c) ∗ slotPts qC c (2 : Fin 16) (kv m c))
      ⊢ iprop(((slotPts qC c (14 : Fin 16) (kv m c) ∗ OW c 8 ∗ slotPts fullShare c (2 : Fin 16) (kv m c) ∗ ZV c (cRS 2)) -∗ Q ⟨d286 m c, d289 m c⟩)
          -∗ wp frame (wpE (defs₀ (F := F)) 𝒱₀ (c : Thread nD τ) none) Set.univ
            (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 v64 (d86 m c) (d207 m c) (d269 m c) (d271 m c)) Q) := by
  rw [k0_part11_eq_skeleton]; unfold k0_part11_skel
  simp only [semSignalWord, semWaitWord, Prog.lift, Prog.bind_op, Prog.bind_ret, Prog.pure_eq_ret, Prog.bind_assoc]
  unfold d286 d289
  iintro ⟨#HR, C14, WRS2, HO, B2, C2⟩ Hk
  iapply (wp_loadK m c (14 : Fin 16) qC) $$ C14; iintro C14
  iapply (wp_loadV m c (14 : Fin 16) qC) $$ C14; iintro C14
  iapply (wp_waitC m K c (cRS 2) rfl rfl 8 (by decide) rfl (P := slotPts qA c (2 : Fin 16) (kv m c)) rfl (src := slotM (3 : Fin 16)) (dst := slotM (2 : Fin 16)) rfl) $$ [WRS2 HO]
  · isplitr; · iexact HR
    isplitl [WRS2]; · iexact WRS2
    iexact HO
  iintro ⟨HO, ZRS2, A2⟩
  ihave S2 := (slot_shares c (2 : Fin 16) (kv m c)).2 $$ [A2 B2 C2]
  · isplitl [A2]; · iexact A2
    isplitl [B2]; · iexact B2
    iexact C2
  rw [wp_ret]; imodintro; iapply Hk
  isplitl [C14]; · iexact C14
  isplitl [HO]; · iexact HO
  isplitl [S2]; · iexact S2
  iexact ZRS2

set_option maxRecDepth 10000 in
theorem part12 (v64 v66 : BitVec 32) {Q : _ → sProp 𝕄} :
    iprop(records m K ∗ WT c (cRR 2) ∗ OW c 8 ∗ WT c (cLS 2) ∗ slotPts qA c (14 : Fin 16) (kv m c) ∗ slotPts qC c (14 : Fin 16) (kv m c) ∗ WT c (cLR 2))
      ⊢ iprop(((OW c 8 ∗ slotPts fullShare c (13 : Fin 16) (kv m c) ∗ slotPts fullShare c (14 : Fin 16) (kv m c) ∗ slotPts fullShare c (3 : Fin 16) (kv m c) ∗ ZV c (cLR 2) ∗ ZV c (cLS 2) ∗ ZV c (cRR 2)) -∗ Q ⟨⟩)
          -∗ wp frame (wpE (defs₀ (F := F)) 𝒱₀ (c : Thread nD τ) none) Set.univ
            (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 v64 v66) Q) := by
  rw [k0_part12_eq_skeleton]; unfold k0_part12_skel
  simp only [semSignalWord, semWaitWord, Prog.lift, Prog.bind_op, Prog.bind_ret, Prog.pure_eq_ret, Prog.bind_assoc]
  iintro ⟨#HR, WRR2, HO, WLS2, A14, C14, WLR2⟩ Hk
  iapply (wp_waitC m K c (cRR 2) rfl rfl 8 (by decide) rfl (P := slotPts fullShare c (3 : Fin 16) (kv m c)) rfl (src := slotM (2 : Fin 16)) (dst := slotM (3 : Fin 16)) rfl) $$ [WRR2 HO]
  · isplitr; · iexact HR
    isplitl [WRR2]; · iexact WRR2
    iexact HO
  iintro ⟨HO, ZRR2, S3⟩
  iapply (wp_waitC m K c (cLS 2) rfl rfl 8 (by decide) rfl (P := slotPts qB c (14 : Fin 16) (kv m c)) rfl (src := slotM (13 : Fin 16)) (dst := slotM (14 : Fin 16)) rfl) $$ [WLS2 HO]
  · isplitr; · iexact HR
    isplitl [WLS2]; · iexact WLS2
    iexact HO
  iintro ⟨HO, ZLS2, B14⟩
  ihave S14 := (slot_shares c (14 : Fin 16) (kv m c)).2 $$ [A14 B14 C14]
  · isplitl [A14]; · iexact A14
    isplitl [B14]; · iexact B14
    iexact C14
  iapply (wp_waitC m K c (cLR 2) rfl rfl 8 (by decide) rfl (P := slotPts fullShare c (13 : Fin 16) (kv m c)) rfl (src := slotM (14 : Fin 16)) (dst := slotM (13 : Fin 16)) rfl) $$ [WLR2 HO]
  · isplitr; · iexact HR
    isplitl [WLR2]; · iexact WLR2
    iexact HO
  iintro ⟨HO, ZLR2, S13⟩
  rw [wp_ret]; imodintro; iapply Hk
  isplitl [HO]; · iexact HO
  isplitl [S13]; · iexact S13
  isplitl [S14]; · iexact S14
  isplitl [S3]; · iexact S3
  isplitl [ZLR2]; · iexact ZLR2
  isplitl [ZLS2]; · iexact ZLS2
  iexact ZRR2

end Cert.RingAttn

end
-- ==== Proof.PartsB.lean ====
/-
# The kernel's body part by part: parts 13 to 19

Each theorem runs one part on device `c`: what the part takes of the device's semaphores, slots and debts, and what it
leaves.
-/
module

public import proofs.«01_k».proof.Proof.Values

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × Cell → ℕ) (c : Dev nD)

set_option maxRecDepth 10000 in
theorem part13 (v66 : BitVec 32) {Q : _ → sProp 𝕄} :
    iprop(records m K ∗ slotPts fullShare c (3 : Fin 16) (kv m c) ∗ RTgt c 3 ∗ OW c 8 ∗ RPre c 3 ∗ slotPts fullShare c (13 : Fin 16) (kv m c) ∗ LTgt c 3 ∗ LPre c 3)
      ⊢ iprop(((slotPts qA c (13 : Fin 16) (kv m c) ∗ slotPts qB c (3 : Fin 16) (kv m c) ∗ slotPts qC c (13 : Fin 16) (kv m c) ∗ slotPts qC c (3 : Fin 16) (kv m c) ∗ OW c 10 ∗ WT c (cLR 3) ∗ WT c (cLS 3) ∗ WT c (cRR 3) ∗ WT c (cRS 3)) -∗ Q ⟨d341 m c, d348 m c, d350 m c⟩)
          -∗ wp frame (wpE (defs₀ (F := F)) 𝒱₀ (c : Thread nD τ) none) Set.univ
            (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 c v66 (d86 m c)) Q) := by
  rw [k0_part13_eq_skeleton]; unfold k0_part13_skel
  simp only [semSignalWord, semWaitWord, Prog.lift, Prog.bind_op, Prog.bind_ret, Prog.pure_eq_ret, Prog.bind_assoc]
  unfold d341 d348 d350
  iintro ⟨#HR, S3, TR3, HO, PR3, S13, TL3, PL3⟩ Hk
  ihave H := (slot_shares c (3 : Fin 16) (kv m c)).1 $$ S3; icases H with ⟨A3, B3, C3⟩
  iapply (wp_sendR m K c 3 (3 : Fin 16) rfl 8 rfl (dev9_eq c) (src := slotM (3 : Fin 16)) (dst := slotM (4 : Fin 16)) rfl rfl rfl rfl) $$ [A3 TR3 HO PR3]
  · isplitr; · iexact HR
    isplitl [A3]; · iexact A3
    isplitl [TR3]; · iexact TR3
    isplitl [HO]; · iexact HO
    iexact PR3
  iintro ⟨WRS3, WRR3, HO⟩
  ihave H := (slot_shares c (13 : Fin 16) (kv m c)).1 $$ S13; icases H with ⟨A13, B13, C13⟩
  iapply (wp_sendL m K c 3 (13 : Fin 16) rfl 9 rfl (dev10_eq c) (src := slotM (13 : Fin 16)) (dst := slotM (12 : Fin 16)) rfl rfl rfl rfl) $$ [B13 TL3 HO PL3]
  · isplitr; · iexact HR
    isplitl [B13]; · iexact B13
    isplitl [TL3]; · iexact TL3
    isplitl [HO]; · iexact HO
    iexact PL3
  iintro ⟨WLS3, WLR3, HO⟩
  iapply (wp_loadK m c (3 : Fin 16) qC) $$ C3; iintro C3
  iapply (wp_loadV m c (3 : Fin 16) qC) $$ C3; iintro C3
  rw [wp_ret]; imodintro; iapply Hk
  isplitl [A13]; · iexact A13
  isplitl [B3]; · iexact B3
  isplitl [C13]; · iexact C13
  isplitl [C3]; · iexact C3
  isplitl [HO]; · iexact HO
  isplitl [WLR3]; · iexact WLR3
  isplitl [WLS3]; · iexact WLS3
  isplitl [WRR3]; · iexact WRR3
  iexact WRS3

set_option maxRecDepth 10000 in
theorem part14 (v64 : BitVec 32) {Q : _ → sProp 𝕄} :
    iprop(records m K ∗ slotPts qC c (13 : Fin 16) (kv m c) ∗ WT c (cRS 3) ∗ OW c 10 ∗ slotPts qB c (3 : Fin 16) (kv m c) ∗ slotPts qC c (3 : Fin 16) (kv m c))
      ⊢ iprop(((slotPts qC c (13 : Fin 16) (kv m c) ∗ OW c 10 ∗ slotPts fullShare c (3 : Fin 16) (kv m c) ∗ ZV c (cRS 3)) -∗ Q ⟨d368 m c, d371 m c, (Scalar.muli v64 1#32), 0#32⟩)
          -∗ wp frame (wpE (defs₀ (F := F)) 𝒱₀ (c : Thread nD τ) none) Set.univ
            (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 v64 (d86 m c) (d286 m c) (d289 m c) (d341 m c) (d348 m c) (d350 m c)) Q) := by
  rw [k0_part14_eq_skeleton]; unfold k0_part14_skel
  simp only [semSignalWord, semWaitWord, Prog.lift, Prog.bind_op, Prog.bind_ret, Prog.pure_eq_ret, Prog.bind_assoc]
  unfold d368 d371
  iintro ⟨#HR, C13, WRS3, HO, B3, C3⟩ Hk
  iapply (wp_loadK m c (13 : Fin 16) qC) $$ C13; iintro C13
  iapply (wp_loadV m c (13 : Fin 16) qC) $$ C13; iintro C13
  iapply (wp_waitC m K c (cRS 3) rfl rfl 10 (by decide) rfl (P := slotPts qA c (3 : Fin 16) (kv m c)) rfl (src := slotM (4 : Fin 16)) (dst := slotM (3 : Fin 16)) rfl) $$ [WRS3 HO]
  · isplitr; · iexact HR
    isplitl [WRS3]; · iexact WRS3
    iexact HO
  iintro ⟨HO, ZRS3, A3⟩
  ihave S3 := (slot_shares c (3 : Fin 16) (kv m c)).2 $$ [A3 B3 C3]
  · isplitl [A3]; · iexact A3
    isplitl [B3]; · iexact B3
    iexact C3
  rw [wp_ret]; imodintro; iapply Hk
  isplitl [C13]; · iexact C13
  isplitl [HO]; · iexact HO
  isplitl [S3]; · iexact S3
  iexact ZRS3

set_option maxRecDepth 10000 in
theorem part15 (v64 v66 v378 c0_i32_407 : BitVec 32) {Q : _ → sProp 𝕄} :
    iprop(records m K ∗ WT c (cRR 3) ∗ OW c 10 ∗ WT c (cLS 3) ∗ slotPts qA c (13 : Fin 16) (kv m c) ∗ slotPts qC c (13 : Fin 16) (kv m c) ∗ WT c (cLR 3))
      ⊢ iprop(((OW c 10 ∗ slotPts fullShare c (12 : Fin 16) (kv m c) ∗ slotPts fullShare c (13 : Fin 16) (kv m c) ∗ slotPts fullShare c (4 : Fin 16) (kv m c) ∗ ZV c (cLR 3) ∗ ZV c (cLS 3) ∗ ZV c (cRR 3)) -∗ Q ⟨(Scalar.muli v64 1#32), 0#32⟩)
          -∗ wp frame (wpE (defs₀ (F := F)) 𝒱₀ (c : Thread nD τ) none) Set.univ
            (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 v64 v66 v378 c0_i32_407) Q) := by
  rw [k0_part15_eq_skeleton]; unfold k0_part15_skel
  simp only [semSignalWord, semWaitWord, Prog.lift, Prog.bind_op, Prog.bind_ret, Prog.pure_eq_ret, Prog.bind_assoc]
  iintro ⟨#HR, WRR3, HO, WLS3, A13, C13, WLR3⟩ Hk
  iapply (wp_waitC m K c (cRR 3) rfl rfl 10 (by decide) rfl (P := slotPts fullShare c (4 : Fin 16) (kv m c)) rfl (src := slotM (3 : Fin 16)) (dst := slotM (4 : Fin 16)) rfl) $$ [WRR3 HO]
  · isplitr; · iexact HR
    isplitl [WRR3]; · iexact WRR3
    iexact HO
  iintro ⟨HO, ZRR3, S4⟩
  iapply (wp_waitC m K c (cLS 3) rfl rfl 10 (by decide) rfl (P := slotPts qB c (13 : Fin 16) (kv m c)) rfl (src := slotM (12 : Fin 16)) (dst := slotM (13 : Fin 16)) rfl) $$ [WLS3 HO]
  · isplitr; · iexact HR
    isplitl [WLS3]; · iexact WLS3
    iexact HO
  iintro ⟨HO, ZLS3, B13⟩
  ihave S13 := (slot_shares c (13 : Fin 16) (kv m c)).2 $$ [A13 B13 C13]
  · isplitl [A13]; · iexact A13
    isplitl [B13]; · iexact B13
    iexact C13
  iapply (wp_waitC m K c (cLR 3) rfl rfl 10 (by decide) rfl (P := slotPts fullShare c (12 : Fin 16) (kv m c)) rfl (src := slotM (13 : Fin 16)) (dst := slotM (12 : Fin 16)) rfl) $$ [WLR3 HO]
  · isplitr; · iexact HR
    isplitl [WLR3]; · iexact WLR3
    iexact HO
  iintro ⟨HO, ZLR3, S12⟩
  rw [wp_ret]; imodintro; iapply Hk
  isplitl [HO]; · iexact HO
  isplitl [S12]; · iexact S12
  isplitl [S13]; · iexact S13
  isplitl [S4]; · iexact S4
  isplitl [ZLR3]; · iexact ZLR3
  isplitl [ZLS3]; · iexact ZLS3
  iexact ZRR3

set_option maxRecDepth 10000 in
theorem part16 (v66 v400 c0_i32_442 : BitVec 32) {Q : _ → sProp 𝕄} :
    iprop(records m K ∗ slotPts fullShare c (4 : Fin 16) (kv m c) ∗ RTgt c 4 ∗ OW c 10 ∗ RPre c 4 ∗ slotPts fullShare c (12 : Fin 16) (kv m c) ∗ LTgt c 4 ∗ LPre c 4)
      ⊢ iprop(((slotPts qA c (12 : Fin 16) (kv m c) ∗ slotPts qB c (4 : Fin 16) (kv m c) ∗ slotPts qC c (12 : Fin 16) (kv m c) ∗ slotPts qC c (4 : Fin 16) (kv m c) ∗ OW c 12 ∗ WT c (cLR 4) ∗ WT c (cLS 4) ∗ WT c (cRR 4) ∗ WT c (cRS 4)) -∗ Q ⟨d423 m c, d429 m c⟩)
          -∗ wp frame (wpE (defs₀ (F := F)) 𝒱₀ (c : Thread nD τ) none) Set.univ
            (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 c v66 (d86 m c) v400 c0_i32_442) Q) := by
  rw [k0_part16_eq_skeleton]; unfold k0_part16_skel
  simp only [semSignalWord, semWaitWord, Prog.lift, Prog.bind_op, Prog.bind_ret, Prog.pure_eq_ret, Prog.bind_assoc]
  unfold d423 d429
  iintro ⟨#HR, S4, TR4, HO, PR4, S12, TL4, PL4⟩ Hk
  ihave H := (slot_shares c (4 : Fin 16) (kv m c)).1 $$ S4; icases H with ⟨A4, B4, C4⟩
  iapply (wp_sendR m K c 4 (4 : Fin 16) rfl 10 rfl (dev11_eq c) (src := slotM (4 : Fin 16)) (dst := slotM (5 : Fin 16)) rfl rfl rfl rfl) $$ [A4 TR4 HO PR4]
  · isplitr; · iexact HR
    isplitl [A4]; · iexact A4
    isplitl [TR4]; · iexact TR4
    isplitl [HO]; · iexact HO
    iexact PR4
  iintro ⟨WRS4, WRR4, HO⟩
  ihave H := (slot_shares c (12 : Fin 16) (kv m c)).1 $$ S12; icases H with ⟨A12, B12, C12⟩
  iapply (wp_sendL m K c 4 (12 : Fin 16) rfl 11 rfl (dev12_eq c) (src := slotM (12 : Fin 16)) (dst := slotM (11 : Fin 16)) rfl rfl rfl rfl) $$ [B12 TL4 HO PL4]
  · isplitr; · iexact HR
    isplitl [B12]; · iexact B12
    isplitl [TL4]; · iexact TL4
    isplitl [HO]; · iexact HO
    iexact PL4
  iintro ⟨WLS4, WLR4, HO⟩
  iapply (wp_loadK m c (4 : Fin 16) qC) $$ C4; iintro C4
  iapply (wp_loadV m c (4 : Fin 16) qC) $$ C4; iintro C4
  rw [wp_ret]; imodintro; iapply Hk
  isplitl [A12]; · iexact A12
  isplitl [B4]; · iexact B4
  isplitl [C12]; · iexact C12
  isplitl [C4]; · iexact C4
  isplitl [HO]; · iexact HO
  isplitl [WLR4]; · iexact WLR4
  isplitl [WLS4]; · iexact WLS4
  isplitl [WRR4]; · iexact WRR4
  iexact WRS4

set_option maxRecDepth 10000 in
theorem part17 {Q : _ → sProp 𝕄} :
    iprop(records m K ∗ slotPts qC c (12 : Fin 16) (kv m c) ∗ WT c (cRS 4) ∗ OW c 12 ∗ slotPts qB c (4 : Fin 16) (kv m c) ∗ slotPts qC c (4 : Fin 16) (kv m c))
      ⊢ iprop(((slotPts qC c (12 : Fin 16) (kv m c) ∗ OW c 12 ∗ slotPts fullShare c (4 : Fin 16) (kv m c) ∗ ZV c (cRS 4)) -∗ Q ⟨d450 m c, d453 m c⟩)
          -∗ wp frame (wpE (defs₀ (F := F)) 𝒱₀ (c : Thread nD τ) none) Set.univ
            (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 (d86 m c) (d368 m c) (d371 m c) (d423 m c) (d429 m c)) Q) := by
  rw [k0_part17_eq_skeleton]; unfold k0_part17_skel
  simp only [semSignalWord, semWaitWord, Prog.lift, Prog.bind_op, Prog.bind_ret, Prog.pure_eq_ret, Prog.bind_assoc]
  unfold d450 d453
  iintro ⟨#HR, C12, WRS4, HO, B4, C4⟩ Hk
  iapply (wp_loadK m c (12 : Fin 16) qC) $$ C12; iintro C12
  iapply (wp_loadV m c (12 : Fin 16) qC) $$ C12; iintro C12
  iapply (wp_waitC m K c (cRS 4) rfl rfl 12 (by decide) rfl (P := slotPts qA c (4 : Fin 16) (kv m c)) rfl (src := slotM (5 : Fin 16)) (dst := slotM (4 : Fin 16)) rfl) $$ [WRS4 HO]
  · isplitr; · iexact HR
    isplitl [WRS4]; · iexact WRS4
    iexact HO
  iintro ⟨HO, ZRS4, A4⟩
  ihave S4 := (slot_shares c (4 : Fin 16) (kv m c)).2 $$ [A4 B4 C4]
  · isplitl [A4]; · iexact A4
    isplitl [B4]; · iexact B4
    iexact C4
  rw [wp_ret]; imodintro; iapply Hk
  isplitl [C12]; · iexact C12
  isplitl [HO]; · iexact HO
  isplitl [S4]; · iexact S4
  iexact ZRS4

set_option maxRecDepth 10000 in
theorem part18 (v64 v66 : BitVec 32) {Q : _ → sProp 𝕄} :
    iprop(records m K ∗ WT c (cRR 4) ∗ OW c 12 ∗ WT c (cLS 4) ∗ slotPts qA c (12 : Fin 16) (kv m c) ∗ slotPts qC c (12 : Fin 16) (kv m c) ∗ WT c (cLR 4))
      ⊢ iprop(((OW c 12 ∗ slotPts fullShare c (11 : Fin 16) (kv m c) ∗ slotPts fullShare c (12 : Fin 16) (kv m c) ∗ slotPts fullShare c (5 : Fin 16) (kv m c) ∗ ZV c (cLR 4) ∗ ZV c (cLS 4) ∗ ZV c (cRR 4)) -∗ Q ⟨⟩)
          -∗ wp frame (wpE (defs₀ (F := F)) 𝒱₀ (c : Thread nD τ) none) Set.univ
            (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 v64 v66) Q) := by
  rw [k0_part18_eq_skeleton]; unfold k0_part18_skel
  simp only [semSignalWord, semWaitWord, Prog.lift, Prog.bind_op, Prog.bind_ret, Prog.pure_eq_ret, Prog.bind_assoc]
  iintro ⟨#HR, WRR4, HO, WLS4, A12, C12, WLR4⟩ Hk
  iapply (wp_waitC m K c (cRR 4) rfl rfl 12 (by decide) rfl (P := slotPts fullShare c (5 : Fin 16) (kv m c)) rfl (src := slotM (4 : Fin 16)) (dst := slotM (5 : Fin 16)) rfl) $$ [WRR4 HO]
  · isplitr; · iexact HR
    isplitl [WRR4]; · iexact WRR4
    iexact HO
  iintro ⟨HO, ZRR4, S5⟩
  iapply (wp_waitC m K c (cLS 4) rfl rfl 12 (by decide) rfl (P := slotPts qB c (12 : Fin 16) (kv m c)) rfl (src := slotM (11 : Fin 16)) (dst := slotM (12 : Fin 16)) rfl) $$ [WLS4 HO]
  · isplitr; · iexact HR
    isplitl [WLS4]; · iexact WLS4
    iexact HO
  iintro ⟨HO, ZLS4, B12⟩
  ihave S12 := (slot_shares c (12 : Fin 16) (kv m c)).2 $$ [A12 B12 C12]
  · isplitl [A12]; · iexact A12
    isplitl [B12]; · iexact B12
    iexact C12
  iapply (wp_waitC m K c (cLR 4) rfl rfl 12 (by decide) rfl (P := slotPts fullShare c (11 : Fin 16) (kv m c)) rfl (src := slotM (12 : Fin 16)) (dst := slotM (11 : Fin 16)) rfl) $$ [WLR4 HO]
  · isplitr; · iexact HR
    isplitl [WLR4]; · iexact WLR4
    iexact HO
  iintro ⟨HO, ZLR4, S11⟩
  rw [wp_ret]; imodintro; iapply Hk
  isplitl [HO]; · iexact HO
  isplitl [S11]; · iexact S11
  isplitl [S12]; · iexact S12
  isplitl [S5]; · iexact S5
  isplitl [ZLR4]; · iexact ZLR4
  isplitl [ZLS4]; · iexact ZLS4
  iexact ZRR4

set_option maxRecDepth 10000 in
theorem part19 (v64 v66 : BitVec 32) {Q : _ → sProp 𝕄} :
    iprop(records m K ∗ slotPts fullShare c (5 : Fin 16) (kv m c) ∗ RTgt c 5 ∗ OW c 12 ∗ RPre c 5 ∗ slotPts fullShare c (11 : Fin 16) (kv m c) ∗ LTgt c 5 ∗ LPre c 5)
      ⊢ iprop(((slotPts qA c (11 : Fin 16) (kv m c) ∗ slotPts qB c (5 : Fin 16) (kv m c) ∗ slotPts qC c (11 : Fin 16) (kv m c) ∗ slotPts qC c (5 : Fin 16) (kv m c) ∗ OW c 14 ∗ WT c (cLR 5) ∗ WT c (cLS 5) ∗ WT c (cRR 5) ∗ WT c (cRS 5)) -∗ Q ⟨d505 m c, d507 m c, d508 (F := F)⟩)
          -∗ wp frame (wpE (defs₀ (F := F)) 𝒱₀ (c : Thread nD τ) none) Set.univ
            (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 c v64 v66 (d86 m c)) Q) := by
  rw [k0_part19_eq_skeleton]; unfold k0_part19_skel
  simp only [semSignalWord, semWaitWord, Prog.lift, Prog.bind_op, Prog.bind_ret, Prog.pure_eq_ret, Prog.bind_assoc]
  unfold d505 d507 d508
  iintro ⟨#HR, S5, TR5, HO, PR5, S11, TL5, PL5⟩ Hk
  ihave H := (slot_shares c (5 : Fin 16) (kv m c)).1 $$ S5; icases H with ⟨A5, B5, C5⟩
  iapply (wp_sendR m K c 5 (5 : Fin 16) rfl 12 rfl (dev13_eq c) (src := slotM (5 : Fin 16)) (dst := slotM (6 : Fin 16)) rfl rfl rfl rfl) $$ [A5 TR5 HO PR5]
  · isplitr; · iexact HR
    isplitl [A5]; · iexact A5
    isplitl [TR5]; · iexact TR5
    isplitl [HO]; · iexact HO
    iexact PR5
  iintro ⟨WRS5, WRR5, HO⟩
  ihave H := (slot_shares c (11 : Fin 16) (kv m c)).1 $$ S11; icases H with ⟨A11, B11, C11⟩
  iapply (wp_sendL m K c 5 (11 : Fin 16) rfl 13 rfl (dev14_eq c) (src := slotM (11 : Fin 16)) (dst := slotM (10 : Fin 16)) rfl rfl rfl rfl) $$ [B11 TL5 HO PL5]
  · isplitr; · iexact HR
    isplitl [B11]; · iexact B11
    isplitl [TL5]; · iexact TL5
    isplitl [HO]; · iexact HO
    iexact PL5
  iintro ⟨WLS5, WLR5, HO⟩
  iapply (wp_loadK m c (5 : Fin 16) qC) $$ C5; iintro C5
  iapply (wp_loadV m c (5 : Fin 16) qC) $$ C5; iintro C5
  rw [wp_ret]; imodintro; iapply Hk
  isplitl [A11]; · iexact A11
  isplitl [B5]; · iexact B5
  isplitl [C11]; · iexact C11
  isplitl [C5]; · iexact C5
  isplitl [HO]; · iexact HO
  isplitl [WLR5]; · iexact WLR5
  isplitl [WLS5]; · iexact WLS5
  isplitl [WRR5]; · iexact WRR5
  iexact WRS5

end Cert.RingAttn

end
-- ==== Proof.PartsC.lean ====
/-
# The kernel's body part by part: parts 20 to 26

Each theorem runs one part on device `c`: what the part takes of the device's semaphores, slots and debts, and what it
leaves.
-/
module

public import proofs.«01_k».proof.Proof.Values

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × Cell → ℕ) (c : Dev nD)

set_option maxRecDepth 10000 in
theorem part20 {Q : _ → sProp 𝕄} :
    iprop(records m K ∗ slotPts qC c (11 : Fin 16) (kv m c))
      ⊢ iprop(((slotPts qC c (11 : Fin 16) (kv m c)) -∗ Q ⟨d532 m c, d535 m c⟩)
          -∗ wp frame (wpE (defs₀ (F := F)) 𝒱₀ (c : Thread nD τ) none) Set.univ
            (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 (d86 m c) (d450 m c) (d453 m c) (d505 m c) (d507 m c) (d508 (F := F))) Q) := by
  rw [k0_part20_eq_skeleton]; unfold k0_part20_skel
  simp only [semSignalWord, semWaitWord, Prog.lift, Prog.bind_op, Prog.bind_ret, Prog.pure_eq_ret, Prog.bind_assoc]
  unfold d532 d535
  iintro ⟨#HR, C11⟩ Hk
  iapply (wp_loadK m c (11 : Fin 16) qC) $$ C11; iintro C11
  iapply (wp_loadV m c (11 : Fin 16) qC) $$ C11; iintro C11
  rw [wp_ret]; imodintro; iapply Hk
  iexact C11

set_option maxRecDepth 10000 in
theorem part21 (v64 v66 : BitVec 32) {Q : _ → sProp 𝕄} :
    iprop(records m K ∗ WT c (cRS 5) ∗ OW c 14 ∗ slotPts qB c (5 : Fin 16) (kv m c) ∗ slotPts qC c (5 : Fin 16) (kv m c) ∗ WT c (cRR 5) ∗ WT c (cLS 5) ∗ slotPts qA c (11 : Fin 16) (kv m c) ∗ slotPts qC c (11 : Fin 16) (kv m c))
      ⊢ iprop(((OW c 14 ∗ slotPts fullShare c (11 : Fin 16) (kv m c) ∗ slotPts fullShare c (5 : Fin 16) (kv m c) ∗ slotPts fullShare c (6 : Fin 16) (kv m c) ∗ ZV c (cLS 5) ∗ ZV c (cRR 5) ∗ ZV c (cRS 5)) -∗ Q ⟨⟩)
          -∗ wp frame (wpE (defs₀ (F := F)) 𝒱₀ (c : Thread nD τ) none) Set.univ
            (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 v64 v66) Q) := by
  rw [k0_part21_eq_skeleton]; unfold k0_part21_skel
  simp only [semSignalWord, semWaitWord, Prog.lift, Prog.bind_op, Prog.bind_ret, Prog.pure_eq_ret, Prog.bind_assoc]
  iintro ⟨#HR, WRS5, HO, B5, C5, WRR5, WLS5, A11, C11⟩ Hk
  iapply (wp_waitC m K c (cRS 5) rfl rfl 14 (by decide) rfl (P := slotPts qA c (5 : Fin 16) (kv m c)) rfl (src := slotM (6 : Fin 16)) (dst := slotM (5 : Fin 16)) rfl) $$ [WRS5 HO]
  · isplitr; · iexact HR
    isplitl [WRS5]; · iexact WRS5
    iexact HO
  iintro ⟨HO, ZRS5, A5⟩
  ihave S5 := (slot_shares c (5 : Fin 16) (kv m c)).2 $$ [A5 B5 C5]
  · isplitl [A5]; · iexact A5
    isplitl [B5]; · iexact B5
    iexact C5
  iapply (wp_waitC m K c (cRR 5) rfl rfl 14 (by decide) rfl (P := slotPts fullShare c (6 : Fin 16) (kv m c)) rfl (src := slotM (5 : Fin 16)) (dst := slotM (6 : Fin 16)) rfl) $$ [WRR5 HO]
  · isplitr; · iexact HR
    isplitl [WRR5]; · iexact WRR5
    iexact HO
  iintro ⟨HO, ZRR5, S6⟩
  iapply (wp_waitC m K c (cLS 5) rfl rfl 14 (by decide) rfl (P := slotPts qB c (11 : Fin 16) (kv m c)) rfl (src := slotM (10 : Fin 16)) (dst := slotM (11 : Fin 16)) rfl) $$ [WLS5 HO]
  · isplitr; · iexact HR
    isplitl [WLS5]; · iexact WLS5
    iexact HO
  iintro ⟨HO, ZLS5, B11⟩
  ihave S11 := (slot_shares c (11 : Fin 16) (kv m c)).2 $$ [A11 B11 C11]
  · isplitl [A11]; · iexact A11
    isplitl [B11]; · iexact B11
    iexact C11
  rw [wp_ret]; imodintro; iapply Hk
  isplitl [HO]; · iexact HO
  isplitl [S11]; · iexact S11
  isplitl [S5]; · iexact S5
  isplitl [S6]; · iexact S6
  isplitl [ZLS5]; · iexact ZLS5
  isplitl [ZRR5]; · iexact ZRR5
  iexact ZRS5

set_option maxRecDepth 10000 in
theorem part22 (v64 v66 : BitVec 32) {Q : _ → sProp 𝕄} :
    iprop(records m K ∗ WT c (cLR 5) ∗ OW c 14 ∗ slotPts fullShare c (6 : Fin 16) (kv m c) ∗ RTgt c 6 ∗ RPre c 6 ∗ LTgt c 6 ∗ LPre c 6)
      ⊢ iprop(((slotPts qA c (10 : Fin 16) (kv m c) ∗ slotPts qB c (6 : Fin 16) (kv m c) ∗ slotPts qC c (10 : Fin 16) (kv m c) ∗ slotPts qC c (6 : Fin 16) (kv m c) ∗ OW c 16 ∗ WT c (cLR 6) ∗ WT c (cLS 6) ∗ WT c (cRR 6) ∗ WT c (cRS 6) ∗ ZV c (cLR 5)) -∗ Q ⟨d587 m c, d588 m c⟩)
          -∗ wp frame (wpE (defs₀ (F := F)) 𝒱₀ (c : Thread nD τ) none) Set.univ
            (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 c v64 v66) Q) := by
  rw [k0_part22_eq_skeleton]; unfold k0_part22_skel
  simp only [semSignalWord, semWaitWord, Prog.lift, Prog.bind_op, Prog.bind_ret, Prog.pure_eq_ret, Prog.bind_assoc]
  unfold d587 d588
  iintro ⟨#HR, WLR5, HO, S6, TR6, PR6, TL6, PL6⟩ Hk
  iapply (wp_waitC m K c (cLR 5) rfl rfl 14 (by decide) rfl (P := slotPts fullShare c (10 : Fin 16) (kv m c)) rfl (src := slotM (11 : Fin 16)) (dst := slotM (10 : Fin 16)) rfl) $$ [WLR5 HO]
  · isplitr; · iexact HR
    isplitl [WLR5]; · iexact WLR5
    iexact HO
  iintro ⟨HO, ZLR5, S10⟩
  ihave H := (slot_shares c (6 : Fin 16) (kv m c)).1 $$ S6; icases H with ⟨A6, B6, C6⟩
  iapply (wp_sendR m K c 6 (6 : Fin 16) rfl 14 rfl (dev15_eq c) (src := slotM (6 : Fin 16)) (dst := slotM (7 : Fin 16)) rfl rfl rfl rfl) $$ [A6 TR6 HO PR6]
  · isplitr; · iexact HR
    isplitl [A6]; · iexact A6
    isplitl [TR6]; · iexact TR6
    isplitl [HO]; · iexact HO
    iexact PR6
  iintro ⟨WRS6, WRR6, HO⟩
  ihave H := (slot_shares c (10 : Fin 16) (kv m c)).1 $$ S10; icases H with ⟨A10, B10, C10⟩
  iapply (wp_sendL m K c 6 (10 : Fin 16) rfl 15 rfl (dev16_eq c) (src := slotM (10 : Fin 16)) (dst := slotM (9 : Fin 16)) rfl rfl rfl rfl) $$ [B10 TL6 HO PL6]
  · isplitr; · iexact HR
    isplitl [B10]; · iexact B10
    isplitl [TL6]; · iexact TL6
    isplitl [HO]; · iexact HO
    iexact PL6
  iintro ⟨WLS6, WLR6, HO⟩
  iapply (wp_loadK m c (6 : Fin 16) qC) $$ C6; iintro C6
  iapply (wp_loadV m c (6 : Fin 16) qC) $$ C6; iintro C6
  rw [wp_ret]; imodintro; iapply Hk
  isplitl [A10]; · iexact A10
  isplitl [B6]; · iexact B6
  isplitl [C10]; · iexact C10
  isplitl [C6]; · iexact C6
  isplitl [HO]; · iexact HO
  isplitl [WLR6]; · iexact WLR6
  isplitl [WLS6]; · iexact WLS6
  isplitl [WRR6]; · iexact WRR6
  isplitl [WRS6]; · iexact WRS6
  iexact ZLR5

set_option maxRecDepth 10000 in
theorem part23 {Q : _ → sProp 𝕄} :
    iprop(records m K ∗ slotPts qC c (10 : Fin 16) (kv m c))
      ⊢ iprop(((slotPts qC c (10 : Fin 16) (kv m c)) -∗ Q ⟨d614 m c, d617 m c⟩)
          -∗ wp frame (wpE (defs₀ (F := F)) 𝒱₀ (c : Thread nD τ) none) Set.univ
            (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 (d86 m c) (d532 m c) (d535 m c) (d587 m c) (d588 m c)) Q) := by
  rw [k0_part23_eq_skeleton]; unfold k0_part23_skel
  simp only [semSignalWord, semWaitWord, Prog.lift, Prog.bind_op, Prog.bind_ret, Prog.pure_eq_ret, Prog.bind_assoc]
  unfold d614 d617
  iintro ⟨#HR, C10⟩ Hk
  iapply (wp_loadK m c (10 : Fin 16) qC) $$ C10; iintro C10
  iapply (wp_loadV m c (10 : Fin 16) qC) $$ C10; iintro C10
  rw [wp_ret]; imodintro; iapply Hk
  iexact C10

set_option maxRecDepth 10000 in
theorem part24 (v64 v66 : BitVec 32) {Q : _ → sProp 𝕄} :
    iprop(records m K ∗ WT c (cRS 6) ∗ OW c 16 ∗ slotPts qB c (6 : Fin 16) (kv m c) ∗ slotPts qC c (6 : Fin 16) (kv m c) ∗ WT c (cRR 6) ∗ WT c (cLS 6) ∗ slotPts qA c (10 : Fin 16) (kv m c) ∗ slotPts qC c (10 : Fin 16) (kv m c))
      ⊢ iprop(((OW c 16 ∗ slotPts fullShare c (10 : Fin 16) (kv m c) ∗ slotPts fullShare c (6 : Fin 16) (kv m c) ∗ slotPts fullShare c (7 : Fin 16) (kv m c) ∗ ZV c (cLS 6) ∗ ZV c (cRR 6) ∗ ZV c (cRS 6)) -∗ Q ⟨⟩)
          -∗ wp frame (wpE (defs₀ (F := F)) 𝒱₀ (c : Thread nD τ) none) Set.univ
            (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 v64 v66) Q) := by
  rw [k0_part24_eq_skeleton]; unfold k0_part24_skel
  simp only [semSignalWord, semWaitWord, Prog.lift, Prog.bind_op, Prog.bind_ret, Prog.pure_eq_ret, Prog.bind_assoc]
  iintro ⟨#HR, WRS6, HO, B6, C6, WRR6, WLS6, A10, C10⟩ Hk
  iapply (wp_waitC m K c (cRS 6) rfl rfl 16 (by decide) rfl (P := slotPts qA c (6 : Fin 16) (kv m c)) rfl (src := slotM (7 : Fin 16)) (dst := slotM (6 : Fin 16)) rfl) $$ [WRS6 HO]
  · isplitr; · iexact HR
    isplitl [WRS6]; · iexact WRS6
    iexact HO
  iintro ⟨HO, ZRS6, A6⟩
  ihave S6 := (slot_shares c (6 : Fin 16) (kv m c)).2 $$ [A6 B6 C6]
  · isplitl [A6]; · iexact A6
    isplitl [B6]; · iexact B6
    iexact C6
  iapply (wp_waitC m K c (cRR 6) rfl rfl 16 (by decide) rfl (P := slotPts fullShare c (7 : Fin 16) (kv m c)) rfl (src := slotM (6 : Fin 16)) (dst := slotM (7 : Fin 16)) rfl) $$ [WRR6 HO]
  · isplitr; · iexact HR
    isplitl [WRR6]; · iexact WRR6
    iexact HO
  iintro ⟨HO, ZRR6, S7⟩
  iapply (wp_waitC m K c (cLS 6) rfl rfl 16 (by decide) rfl (P := slotPts qB c (10 : Fin 16) (kv m c)) rfl (src := slotM (9 : Fin 16)) (dst := slotM (10 : Fin 16)) rfl) $$ [WLS6 HO]
  · isplitr; · iexact HR
    isplitl [WLS6]; · iexact WLS6
    iexact HO
  iintro ⟨HO, ZLS6, B10⟩
  ihave S10 := (slot_shares c (10 : Fin 16) (kv m c)).2 $$ [A10 B10 C10]
  · isplitl [A10]; · iexact A10
    isplitl [B10]; · iexact B10
    iexact C10
  rw [wp_ret]; imodintro; iapply Hk
  isplitl [HO]; · iexact HO
  isplitl [S10]; · iexact S10
  isplitl [S6]; · iexact S6
  isplitl [S7]; · iexact S7
  isplitl [ZLS6]; · iexact ZLS6
  isplitl [ZRR6]; · iexact ZRR6
  iexact ZRS6

set_option maxRecDepth 10000 in
theorem part25 (v64 : BitVec 32) {Q : _ → sProp 𝕄} :
    iprop(records m K ∗ WT c (cLR 6) ∗ OW c 16 ∗ slotPts fullShare c (7 : Fin 16) (kv m c) ∗ RTgt c 7 ∗ RPre c 7)
      ⊢ iprop(((slotPts qB c (7 : Fin 16) (kv m c) ∗ slotPts qC c (7 : Fin 16) (kv m c) ∗ OW c 17 ∗ slotPts fullShare c (9 : Fin 16) (kv m c) ∗ WT c (cRR 7) ∗ WT c (cRS 7) ∗ ZV c (cLR 6)) -∗ Q ⟨d669 m c, d672 m c⟩)
          -∗ wp frame (wpE (defs₀ (F := F)) 𝒱₀ (c : Thread nD τ) none) Set.univ
            (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 c v64 (d86 m c) (d614 m c) (d617 m c)) Q) := by
  rw [k0_part25_eq_skeleton]; unfold k0_part25_skel
  simp only [semSignalWord, semWaitWord, Prog.lift, Prog.bind_op, Prog.bind_ret, Prog.pure_eq_ret, Prog.bind_assoc]
  unfold d669 d672
  iintro ⟨#HR, WLR6, HO, S7, TR7, PR7⟩ Hk
  iapply (wp_waitC m K c (cLR 6) rfl rfl 16 (by decide) rfl (P := slotPts fullShare c (9 : Fin 16) (kv m c)) rfl (src := slotM (10 : Fin 16)) (dst := slotM (9 : Fin 16)) rfl) $$ [WLR6 HO]
  · isplitr; · iexact HR
    isplitl [WLR6]; · iexact WLR6
    iexact HO
  iintro ⟨HO, ZLR6, S9⟩
  ihave H := (slot_shares c (7 : Fin 16) (kv m c)).1 $$ S7; icases H with ⟨A7, B7, C7⟩
  iapply (wp_sendR m K c 7 (7 : Fin 16) rfl 16 rfl (dev17_eq c) (src := slotM (7 : Fin 16)) (dst := slotM (8 : Fin 16)) rfl rfl rfl rfl) $$ [A7 TR7 HO PR7]
  · isplitr; · iexact HR
    isplitl [A7]; · iexact A7
    isplitl [TR7]; · iexact TR7
    isplitl [HO]; · iexact HO
    iexact PR7
  iintro ⟨WRS7, WRR7, HO⟩
  iapply (wp_loadK m c (7 : Fin 16) qC) $$ C7; iintro C7
  iapply (wp_loadV m c (7 : Fin 16) qC) $$ C7; iintro C7
  rw [wp_ret]; imodintro; iapply Hk
  isplitl [B7]; · iexact B7
  isplitl [C7]; · iexact C7
  isplitl [HO]; · iexact HO
  isplitl [S9]; · iexact S9
  isplitl [WRR7]; · iexact WRR7
  isplitl [WRS7]; · iexact WRS7
  iexact ZLR6

set_option maxRecDepth 10000 in
theorem part26 (v64 : BitVec 32) {Q : _ → sProp 𝕄} :
    iprop(records m K ∗ slotPts fullShare c (9 : Fin 16) (kv m c) ∗ WT c (cRS 7) ∗ OW c 17 ∗ slotPts qB c (7 : Fin 16) (kv m c) ∗ slotPts qC c (7 : Fin 16) (kv m c))
      ⊢ iprop(((OW c 17 ∗ slotPts fullShare c (7 : Fin 16) (kv m c) ∗ slotPts fullShare c (9 : Fin 16) (kv m c) ∗ ZV c (cRS 7)) -∗ Q ⟨d686 m c, d689 m c⟩)
          -∗ wp frame (wpE (defs₀ (F := F)) 𝒱₀ (c : Thread nD τ) none) Set.univ
            (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0 v64 (d86 m c) (d669 m c) (d672 m c)) Q) := by
  rw [k0_part26_eq_skeleton]; unfold k0_part26_skel
  simp only [semSignalWord, semWaitWord, Prog.lift, Prog.bind_op, Prog.bind_ret, Prog.pure_eq_ret, Prog.bind_assoc]
  unfold d686 d689
  iintro ⟨#HR, S9, WRS7, HO, B7, C7⟩ Hk
  iapply (wp_loadK m c (9 : Fin 16) fullShare) $$ S9; iintro S9
  iapply (wp_loadV m c (9 : Fin 16) fullShare) $$ S9; iintro S9
  iapply (wp_waitC m K c (cRS 7) rfl rfl 17 (by decide) rfl (P := slotPts qA c (7 : Fin 16) (kv m c)) rfl (src := slotM (8 : Fin 16)) (dst := slotM (7 : Fin 16)) rfl) $$ [WRS7 HO]
  · isplitr; · iexact HR
    isplitl [WRS7]; · iexact WRS7
    iexact HO
  iintro ⟨HO, ZRS7, A7⟩
  ihave S7 := (slot_shares c (7 : Fin 16) (kv m c)).2 $$ [A7 B7 C7]
  · isplitl [A7]; · iexact A7
    isplitl [B7]; · iexact B7
    iexact C7
  rw [wp_ret]; imodintro; iapply Hk
  isplitl [HO]; · iexact HO
  isplitl [S7]; · iexact S7
  isplitl [S9]; · iexact S9
  iexact ZRS7

end Cert.RingAttn

end
-- ==== Proof.Body.lean ====
/-
# The kernel's body on one device

From what a device holds when the body starts (`bodyIn`) to what it holds at the end (`bodyOut`): its staged inputs as they
were, its block of the result, every debt paid and every semaphore at zero. `part27` chains the parts, `body_run` adds the
result's store and the closing handshake.
-/
module

public import proofs.«01_k».proof.Proof.Ends
public import proofs.«01_k».proof.Proof.PartsA
public import proofs.«01_k».proof.Proof.PartsB
public import proofs.«01_k».proof.Proof.PartsC

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × Cell → ℕ) (c : Dev nD)

/-- The staged inputs. -/
def Staged : sProp 𝕄 :=
  iprop((((c : Thread nD τ).loc cc0_stg0_0) ↦{fullShare} qin m c) ∗ (((c : Thread nD τ).loc cc0_stg1_0) ↦{fullShare} kin m c)
    ∗ (((c : Thread nD τ).loc cc0_stg2_0) ↦{fullShare} vin m c))

/-- Every semaphore of the ring at zero, the closing handshake's apart. -/
def Quiet : sProp 𝕄 :=
  iprop(ZV c cBar ∗ (bigSep Finset.univ fun h : Fin 8 => ZV c (cRS h)) ∗ (bigSep Finset.univ fun h : Fin 8 => ZV c (cRR h))
    ∗ (bigSep Finset.univ fun h : Fin 7 => ZV c (cLS h)) ∗ (bigSep Finset.univ fun h : Fin 7 => ZV c (cLR h)))

/-- What a device gives its right neighbour at the opening handshake: its slots 9 to 15, -/
theorem give_right (c : Dev nD) : pay m (nbr c true) cBar false = bigSep Finset.univ fun h : Fin 7 => iprop(∃ f, slotPts (F := F) fullShare c (ldst h) f) := by
  show (bigSep Finset.univ fun h : Fin 7 => iprop(∃ f, slotPts (F := F) fullShare (prv (nxt c)) (ldst h) f)) = _
  rw [prv_nxt]
/-- and its left neighbour: its slots 1 to 8. -/
theorem give_left (c : Dev nD) : pay m (nbr c false) cBar true = bigSep Finset.univ fun h : Fin 8 => iprop(∃ f, slotPts (F := F) fullShare c (rdst h) f) := by
  show (bigSep Finset.univ fun h : Fin 8 => iprop(∃ f, slotPts (F := F) fullShare (nxt (prv c)) (rdst h) f)) = _
  rw [nxt_prv]
theorem got_right (c : Dev nD) : pay m c cBar true = bigSep Finset.univ fun h : Fin 8 => RTgt (F := F) c h := rfl
theorem got_left (c : Dev nD) : pay m c cBar false = bigSep Finset.univ fun h : Fin 7 => LTgt (F := F) c h := rfl

/-- The closing handshake carries nothing. -/
theorem fin_pay (b d : Bool) : ⊢ pay m (nbr c b) cFin d := by unfold pay; exact Entails.rfl

set_option maxRecDepth 10000 in
/-- The slots a device gives away, and the one it keeps. -/
theorem slots_out (f : (cc0_scratch0 : Ref sig .tc).ty.Contents (Elt F)) :
    (((c : Thread nD τ).loc cc0_scratch0) ↦{fullShare} f : sProp 𝕄)
      ⊢ iprop(pay m (nbr c false) cBar true ∗ pay m (nbr c true) cBar false ∗ slotPts fullShare c (0 : Fin 16) f) := by
  rw [slots_split, bigSep_sixteen, give_left, give_right, bigSep_eight, bigSep_seven]
  iintro ⟨S0, S1, S2, S3, S4, S5, S6, S7, S8, S9, S10, S11, S12, S13, S14, S15⟩
  isplitl [S1 S2 S3 S4 S5 S6 S7 S8]
  · isplitl [S1]; · (iexists f; iexact S1)
    isplitl [S2]; · (iexists f; iexact S2)
    isplitl [S3]; · (iexists f; iexact S3)
    isplitl [S4]; · (iexists f; iexact S4)
    isplitl [S5]; · (iexists f; iexact S5)
    isplitl [S6]; · (iexists f; iexact S6)
    isplitl [S7]; · (iexists f; iexact S7)
    iexists f; iexact S8
  isplitl [S9 S10 S11 S12 S13 S14 S15]
  · isplitl [S15]; · (iexists f; iexact S15)
    isplitl [S14]; · (iexists f; iexact S14)
    isplitl [S13]; · (iexists f; iexact S13)
    isplitl [S12]; · (iexists f; iexact S12)
    isplitl [S11]; · (iexists f; iexact S11)
    isplitl [S10]; · (iexists f; iexact S10)
    iexists f; iexact S9
  iexact S0

set_option maxRecDepth 10000 in
set_option maxHeartbeats 4000000 in
theorem part27 (f : (cc0_scratch0 : Ref sig .tc).ty.Contents (Elt F)) {Q : _ → sProp 𝕄} :
    iprop(records m K ∗ Shake c cBar ∗ (bigSep Finset.univ fun h : Fin 8 => RPre c h) ∗ (bigSep Finset.univ fun h : Fin 7 => LPre c h)
        ∗ OW c 0 ∗ Staged m c ∗ (((c : Thread nD τ).loc cc0_scratch0) ↦{fullShare} f))
      ⊢ iprop((∀ v64 v66, (OW c 17 ∗ Staged m c ∗ (((c : Thread nD τ).loc cc0_scratch0) ↦{fullShare} kv m c) ∗ Quiet c)
            -∗ Q ⟨c, v64, v66, d689 m c, d707 m c, d717 m c, d718 m c⟩)
          -∗ wp frame (wpE (defs₀ (F := F)) 𝒱₀ (c : Thread nD τ) none) Set.univ (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0) Q) := by
  rw [k0_part27_eq_skeleton]; unfold k0_part27_skel Staged Quiet d707 d717 d718
  rw [bigSep_eight, bigSep_seven, slots_split c (kv m c), bigSep_sixteen, bigSep_eight, bigSep_eight, bigSep_seven, bigSep_seven]
  iintro ⟨#HR, Hs, ⟨PR0, PR1, PR2, PR3, PR4, PR5, PR6, PR7⟩, ⟨PL0, PL1, PL2, PL3, PL4, PL5, PL6⟩, HO, ⟨HQ, HK, HV⟩, Hscr⟩ Hk
  ihave Hscr := (slots_out m c f) $$ Hscr; icases Hscr with ⟨P1, P2, S0⟩
  rw [wp_bind]
  iapply (part1 c); iintro %v2 %v26 %v28; dsimp only
  rw [wp_bind]
  iapply (part2 c v2 v26 v28); iintro %v56 %v58; dsimp only
  rw [wp_bind]
  iapply (part3 m K c v2 v56 v58 f) $$ [Hs HO P1 P2 HK HV S0]
  · isplitr; · iexact HR
    isplitl [Hs]; · iexact Hs
    isplitl [HO]; · iexact HO
    isplitl [P1]; · iexact P1
    isplitl [P2]; · iexact P2
    isplitl [HK]; · iexact HK
    isplitl [HV]; · iexact HV
    iexact S0
  iintro %v64 %v66 ⟨HO, ZBar, P1, P2, HK, HV, S0⟩
  ihave P1 := (Entails.of_eq ((got_left m c).trans (bigSep_seven _))) $$ P1; icases P1 with ⟨TL0, TL1, TL2, TL3, TL4, TL5, TL6⟩
  ihave P2 := (Entails.of_eq ((got_right m c).trans (bigSep_eight _))) $$ P2; icases P2 with ⟨TR0, TR1, TR2, TR3, TR4, TR5, TR6, TR7⟩
  dsimp only
  rw [wp_bind]
  iapply (part4 m K c _ _) $$ [HQ S0 TR0 HO PR0 TL0 PL0]
  · isplitr; · iexact HR
    isplitl [HQ]; · iexact HQ
    isplitl [S0]; · iexact S0
    isplitl [TR0]; · iexact TR0
    isplitl [HO]; · iexact HO
    isplitl [PR0]; · iexact PR0
    isplitl [TL0]; · iexact TL0
    iexact PL0
  iintro ⟨C0, HO, HQ, WLR0, WLS0, WRR0, WRS0⟩
  try dsimp only
  rw [wp_bind]
  iapply (part5 m K c _) $$ [C0 WRS0 HO]
  · isplitr; · iexact HR
    isplitl [C0]; · iexact C0
    isplitl [WRS0]; · iexact WRS0
    iexact HO
  iintro ⟨A0, C0, HO, ZRS0⟩
  try dsimp only
  rw [wp_bind]
  iapply (part6 m K c _ _) $$ [WRR0 HO WLS0 A0 C0 WLR0]
  · isplitr; · iexact HR
    isplitl [WRR0]; · iexact WRR0
    isplitl [HO]; · iexact HO
    isplitl [WLS0]; · iexact WLS0
    isplitl [A0]; · iexact A0
    isplitl [C0]; · iexact C0
    iexact WLR0
  iintro ⟨HO, S0, S1, S15, ZLR0, ZLS0, ZRR0⟩
  try dsimp only
  rw [wp_bind]
  iapply (part7 m K c _) $$ [S1 TR1 HO PR1 S15 TL1 PL1]
  · isplitr; · iexact HR
    isplitl [S1]; · iexact S1
    isplitl [TR1]; · iexact TR1
    isplitl [HO]; · iexact HO
    isplitl [PR1]; · iexact PR1
    isplitl [S15]; · iexact S15
    isplitl [TL1]; · iexact TL1
    iexact PL1
  iintro ⟨A15, B1, C1, C15, HO, WLR1, WLS1, WRR1, WRS1⟩
  try dsimp only
  rw [wp_bind]
  iapply (part8 m K c _) $$ [C15 WRS1 HO B1 C1]
  · isplitr; · iexact HR
    isplitl [C15]; · iexact C15
    isplitl [WRS1]; · iexact WRS1
    isplitl [HO]; · iexact HO
    isplitl [B1]; · iexact B1
    iexact C1
  iintro ⟨C15, HO, S1, ZRS1⟩
  try dsimp only
  rw [wp_bind]
  iapply (part9 m K c _ _) $$ [WRR1 HO WLS1 A15 C15 WLR1]
  · isplitr; · iexact HR
    isplitl [WRR1]; · iexact WRR1
    isplitl [HO]; · iexact HO
    isplitl [WLS1]; · iexact WLS1
    isplitl [A15]; · iexact A15
    isplitl [C15]; · iexact C15
    iexact WLR1
  iintro ⟨HO, S14, S15, S2, ZLR1, ZLS1, ZRR1⟩
  try dsimp only
  rw [wp_bind]
  iapply (part10 m K c _) $$ [S2 TR2 HO PR2 S14 TL2 PL2]
  · isplitr; · iexact HR
    isplitl [S2]; · iexact S2
    isplitl [TR2]; · iexact TR2
    isplitl [HO]; · iexact HO
    isplitl [PR2]; · iexact PR2
    isplitl [S14]; · iexact S14
    isplitl [TL2]; · iexact TL2
    iexact PL2
  iintro ⟨A14, B2, C14, C2, HO, WLR2, WLS2, WRR2, WRS2⟩
  try dsimp only
  rw [wp_bind]
  iapply (part11 m K c _) $$ [C14 WRS2 HO B2 C2]
  · isplitr; · iexact HR
    isplitl [C14]; · iexact C14
    isplitl [WRS2]; · iexact WRS2
    isplitl [HO]; · iexact HO
    isplitl [B2]; · iexact B2
    iexact C2
  iintro ⟨C14, HO, S2, ZRS2⟩
  try dsimp only
  rw [wp_bind]
  iapply (part12 m K c _ _) $$ [WRR2 HO WLS2 A14 C14 WLR2]
  · isplitr; · iexact HR
    isplitl [WRR2]; · iexact WRR2
    isplitl [HO]; · iexact HO
    isplitl [WLS2]; · iexact WLS2
    isplitl [A14]; · iexact A14
    isplitl [C14]; · iexact C14
    iexact WLR2
  iintro ⟨HO, S13, S14, S3, ZLR2, ZLS2, ZRR2⟩
  try dsimp only
  rw [wp_bind]
  iapply (part13 m K c _) $$ [S3 TR3 HO PR3 S13 TL3 PL3]
  · isplitr; · iexact HR
    isplitl [S3]; · iexact S3
    isplitl [TR3]; · iexact TR3
    isplitl [HO]; · iexact HO
    isplitl [PR3]; · iexact PR3
    isplitl [S13]; · iexact S13
    isplitl [TL3]; · iexact TL3
    iexact PL3
  iintro ⟨A13, B3, C13, C3, HO, WLR3, WLS3, WRR3, WRS3⟩
  try dsimp only
  rw [wp_bind]
  iapply (part14 m K c _) $$ [C13 WRS3 HO B3 C3]
  · isplitr; · iexact HR
    isplitl [C13]; · iexact C13
    isplitl [WRS3]; · iexact WRS3
    isplitl [HO]; · iexact HO
    isplitl [B3]; · iexact B3
    iexact C3
  iintro ⟨C13, HO, S3, ZRS3⟩
  try dsimp only
  rw [wp_bind]
  iapply (part15 m K c _ _ _ _) $$ [WRR3 HO WLS3 A13 C13 WLR3]
  · isplitr; · iexact HR
    isplitl [WRR3]; · iexact WRR3
    isplitl [HO]; · iexact HO
    isplitl [WLS3]; · iexact WLS3
    isplitl [A13]; · iexact A13
    isplitl [C13]; · iexact C13
    iexact WLR3
  iintro ⟨HO, S12, S13, S4, ZLR3, ZLS3, ZRR3⟩
  try dsimp only
  rw [wp_bind]
  iapply (part16 m K c _ _ _) $$ [S4 TR4 HO PR4 S12 TL4 PL4]
  · isplitr; · iexact HR
    isplitl [S4]; · iexact S4
    isplitl [TR4]; · iexact TR4
    isplitl [HO]; · iexact HO
    isplitl [PR4]; · iexact PR4
    isplitl [S12]; · iexact S12
    isplitl [TL4]; · iexact TL4
    iexact PL4
  iintro ⟨A12, B4, C12, C4, HO, WLR4, WLS4, WRR4, WRS4⟩
  try dsimp only
  rw [wp_bind]
  iapply (part17 m K c) $$ [C12 WRS4 HO B4 C4]
  · isplitr; · iexact HR
    isplitl [C12]; · iexact C12
    isplitl [WRS4]; · iexact WRS4
    isplitl [HO]; · iexact HO
    isplitl [B4]; · iexact B4
    iexact C4
  iintro ⟨C12, HO, S4, ZRS4⟩
  try dsimp only
  rw [wp_bind]
  iapply (part18 m K c _ _) $$ [WRR4 HO WLS4 A12 C12 WLR4]
  · isplitr; · iexact HR
    isplitl [WRR4]; · iexact WRR4
    isplitl [HO]; · iexact HO
    isplitl [WLS4]; · iexact WLS4
    isplitl [A12]; · iexact A12
    isplitl [C12]; · iexact C12
    iexact WLR4
  iintro ⟨HO, S11, S12, S5, ZLR4, ZLS4, ZRR4⟩
  try dsimp only
  rw [wp_bind]
  iapply (part19 m K c _ _) $$ [S5 TR5 HO PR5 S11 TL5 PL5]
  · isplitr; · iexact HR
    isplitl [S5]; · iexact S5
    isplitl [TR5]; · iexact TR5
    isplitl [HO]; · iexact HO
    isplitl [PR5]; · iexact PR5
    isplitl [S11]; · iexact S11
    isplitl [TL5]; · iexact TL5
    iexact PL5
  iintro ⟨A11, B5, C11, C5, HO, WLR5, WLS5, WRR5, WRS5⟩
  try dsimp only
  rw [wp_bind]
  iapply (part20 m K c) $$ [C11]
  · isplitr; · iexact HR
    iexact C11
  iintro C11
  try dsimp only
  rw [wp_bind]
  iapply (part21 m K c _ _) $$ [WRS5 HO B5 C5 WRR5 WLS5 A11 C11]
  · isplitr; · iexact HR
    isplitl [WRS5]; · iexact WRS5
    isplitl [HO]; · iexact HO
    isplitl [B5]; · iexact B5
    isplitl [C5]; · iexact C5
    isplitl [WRR5]; · iexact WRR5
    isplitl [WLS5]; · iexact WLS5
    isplitl [A11]; · iexact A11
    iexact C11
  iintro ⟨HO, S11, S5, S6, ZLS5, ZRR5, ZRS5⟩
  try dsimp only
  rw [wp_bind]
  iapply (part22 m K c _ _) $$ [WLR5 HO S6 TR6 PR6 TL6 PL6]
  · isplitr; · iexact HR
    isplitl [WLR5]; · iexact WLR5
    isplitl [HO]; · iexact HO
    isplitl [S6]; · iexact S6
    isplitl [TR6]; · iexact TR6
    isplitl [PR6]; · iexact PR6
    isplitl [TL6]; · iexact TL6
    iexact PL6
  iintro ⟨A10, B6, C10, C6, HO, WLR6, WLS6, WRR6, WRS6, ZLR5⟩
  try dsimp only
  rw [wp_bind]
  iapply (part23 m K c) $$ [C10]
  · isplitr; · iexact HR
    iexact C10
  iintro C10
  try dsimp only
  rw [wp_bind]
  iapply (part24 m K c _ _) $$ [WRS6 HO B6 C6 WRR6 WLS6 A10 C10]
  · isplitr; · iexact HR
    isplitl [WRS6]; · iexact WRS6
    isplitl [HO]; · iexact HO
    isplitl [B6]; · iexact B6
    isplitl [C6]; · iexact C6
    isplitl [WRR6]; · iexact WRR6
    isplitl [WLS6]; · iexact WLS6
    isplitl [A10]; · iexact A10
    iexact C10
  iintro ⟨HO, S10, S6, S7, ZLS6, ZRR6, ZRS6⟩
  try dsimp only
  rw [wp_bind]
  iapply (part25 m K c _) $$ [WLR6 HO S7 TR7 PR7]
  · isplitr; · iexact HR
    isplitl [WLR6]; · iexact WLR6
    isplitl [HO]; · iexact HO
    isplitl [S7]; · iexact S7
    isplitl [TR7]; · iexact TR7
    iexact PR7
  iintro ⟨B7, C7, HO, S9, WRR7, WRS7, ZLR6⟩
  try dsimp only
  rw [wp_bind]
  iapply (part26 m K c _) $$ [S9 WRS7 HO B7 C7]
  · isplitr; · iexact HR
    isplitl [S9]; · iexact S9
    isplitl [WRS7]; · iexact WRS7
    isplitl [HO]; · iexact HO
    isplitl [B7]; · iexact B7
    iexact C7
  iintro ⟨HO, S7, S9, ZRS7⟩
  try dsimp only
  simp only [semSignalWord, semWaitWord, Prog.lift, Prog.bind_op, Prog.bind_ret, Prog.pure_eq_ret, Prog.bind_assoc]
  iapply (wp_waitC m K c (cRR 7) rfl rfl 17 (by decide) rfl (P := slotPts fullShare c (8 : Fin 16) (kv m c)) rfl (src := slotM (7 : Fin 16)) (dst := slotM (8 : Fin 16)) rfl) $$ [WRR7 HO]
  · isplitr; · iexact HR
    isplitl [WRR7]; · iexact WRR7
    iexact HO
  iintro ⟨HO, ZRR7, S8⟩
  iapply (wp_loadK m c (8 : Fin 16) fullShare) $$ S8; iintro S8
  iapply (wp_loadV m c (8 : Fin 16) fullShare) $$ S8; iintro S8
  rw [wp_ret]; imodintro; iapply Hk
  isplitl [HO]; · iexact HO
  isplitl [HQ HK HV]
  · isplitl [HQ]; · iexact HQ
    isplitl [HK]; · iexact HK
    iexact HV
  isplitl [S0 S1 S2 S3 S4 S5 S6 S7 S8 S9 S10 S11 S12 S13 S14 S15]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact S15
  isplitl [ZBar]; · iexact ZBar
  isplitl [ZRS0 ZRS1 ZRS2 ZRS3 ZRS4 ZRS5 ZRS6 ZRS7]
  · isplitl [ZRS0]; · iexact ZRS0
    isplitl [ZRS1]; · iexact ZRS1
    isplitl [ZRS2]; · iexact ZRS2
    isplitl [ZRS3]; · iexact ZRS3
    isplitl [ZRS4]; · iexact ZRS4
    isplitl [ZRS5]; · iexact ZRS5
    isplitl [ZRS6]; · iexact ZRS6
    iexact ZRS7
  isplitl [ZRR0 ZRR1 ZRR2 ZRR3 ZRR4 ZRR5 ZRR6 ZRR7]
  · isplitl [ZRR0]; · iexact ZRR0
    isplitl [ZRR1]; · iexact ZRR1
    isplitl [ZRR2]; · iexact ZRR2
    isplitl [ZRR3]; · iexact ZRR3
    isplitl [ZRR4]; · iexact ZRR4
    isplitl [ZRR5]; · iexact ZRR5
    isplitl [ZRR6]; · iexact ZRR6
    iexact ZRR7
  isplitl [ZLS0 ZLS1 ZLS2 ZLS3 ZLS4 ZLS5 ZLS6]
  · isplitl [ZLS0]; · iexact ZLS0
    isplitl [ZLS1]; · iexact ZLS1
    isplitl [ZLS2]; · iexact ZLS2
    isplitl [ZLS3]; · iexact ZLS3
    isplitl [ZLS4]; · iexact ZLS4
    isplitl [ZLS5]; · iexact ZLS5
    iexact ZLS6
  isplitl [ZLR0]; · iexact ZLR0
  isplitl [ZLR1]; · iexact ZLR1
  isplitl [ZLR2]; · iexact ZLR2
  isplitl [ZLR3]; · iexact ZLR3
  isplitl [ZLR4]; · iexact ZLR4
  isplitl [ZLR5]; · iexact ZLR5
  iexact ZLR6

/-- What a device holds when the body starts, -/
def bodyIn (f : (cc0_scratch0 : Ref sig .tc).ty.Contents (Elt F)) (g : (cc0_stg3_0 : Ref sig .tc).ty.Contents (Elt F)) : sProp 𝕄 :=
  iprop(records m K ∗ Shake c cBar ∗ Shake c cFin ∗ (bigSep Finset.univ fun h : Fin 8 => RPre c h) ∗ (bigSep Finset.univ fun h : Fin 7 => LPre c h)
    ∗ OW c 0 ∗ Staged m c ∗ (((c : Thread nD τ).loc cc0_scratch0) ↦{fullShare} f) ∗ (((c : Thread nD τ).loc cc0_stg3_0) ↦{fullShare} g))
/-- and at its end. -/
def bodyOut : sProp 𝕄 :=
  iprop(OW c 19 ∗ Staged m c ∗ (((c : Thread nD τ).loc cc0_scratch0) ↦{fullShare} kv m c) ∗ (((c : Thread nD τ).loc cc0_stg3_0) ↦{fullShare} outv m c)
    ∗ Quiet c ∗ ZV c cFin)

set_option maxRecDepth 10000 in
/-- The body on device `c`. -/
theorem body_run (f : (cc0_scratch0 : Ref sig .tc).ty.Contents (Elt F)) (g : (cc0_stg3_0 : Ref sig .tc).ty.Contents (Elt F)) {Q : PUnit → sProp 𝕄} :
    bodyIn m K c f g
      ⊢ iprop((bodyOut m c -∗ Q ⟨⟩)
          -∗ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0) Q) := by
  rw [cc0_body_eq_skeleton]; unfold cc0_body_skel bodyIn bodyOut
  iintro ⟨#HR, Hb, Hf, HPR, HPL, HO, HS, Hscr, Hout⟩ Hk
  rw [wp_bind]
  iapply (part27 m K c f) $$ [Hb HPR HPL HO HS Hscr]
  · isplitr; · iexact HR
    isplitl [Hb]; · iexact Hb
    isplitl [HPR]; · iexact HPR
    isplitl [HPL]; · iexact HPL
    isplitl [HO]; · iexact HO
    isplitl [HS]; · iexact HS
    iexact Hscr
  iintro %v64 %v66 ⟨HO, HS, Hscr, HZ⟩
  dsimp only
  simp only [semSignalWord, semWaitWord, Prog.lift, Prog.bind_op, Prog.bind_ret, Prog.pure_eq_ret, Prog.bind_assoc, toInt_one, toInt_two]
  iapply (wp_loadB3 c _) $$ Hout; iintro Hout
  iapply (wp_store 𝒱₀ (c : Thread nD τ) none Set.univ (m := (Memref.whole cc0_stg3_0 : Memref sig .tc .vmem S512x128 .f32)) (r := blkR) (Mk := Finset.univ) (Finset.subset_univ _)) $$ Hout; iintro Hout
  rw [show ((Memref.whole cc0_stg3_0 : Memref sig .tc .vmem S512x128 .f32).access blkR : View sig .tc _ _ _).write (Elt F) g (k0_pay1 (d689 m c) (d707 m c) (d717 m c) (d718 m c)) Finset.univ = outv m c from
    Memref.write_access_unit_zero_univ (Elt F) cc0_stg3_0 blk_zero _ _ _]
  unfold Shake
  icases Hf with ⟨D1, D2, Hc, Hat⟩
  iapply (wp_sig m K c cFin false rfl rfl 17 rfl (dev18_eq c) rfl (w := 1) rfl) $$ [D1 HO]
  · isplitr; · iexact HR
    isplitl [D1]; · iexact D1
    isplitr; · iapply (fin_pay m c _ _)
    iexact HO
  iintro HO
  iapply (wp_sig m K c cFin true rfl rfl 18 rfl (dev19_eq c) rfl (w := 1) rfl) $$ [D2 HO]
  · isplitr; · iexact HR
    isplitl [D2]; · iexact D2
    isplitr; · iapply (fin_pay m c _ _)
    iexact HO
  iintro HO
  iapply (wp_waitS m K c cFin rfl rfl 19 (by decide) rfl (w := 2) rfl) $$ [Hc Hat HO]
  · isplitr; · iexact HR
    isplitl [Hc]; · iexact Hc
    isplitl [Hat]; · iexact Hat
    iexact HO
  iintro ⟨HO, Z, -, -⟩
  rw [wp_ret]; imodintro; iapply Hk
  isplitl [HO]; · iexact HO
  isplitl [HS]; · iexact HS
  isplitl [Hscr]; · iexact Hscr
  isplitl [Hout]; · iexact Hout
  isplitl [HZ]; · iexact HZ
  iexact Z

end Cert.RingAttn

end
-- ==== Proof.Ghost.lean ====
/-
# What each device is dealt before the kernels start

The tokens of every payment are minted with the cell they pay to and dealt round the ring to the device that makes the
payment (`toks_around`); every cell's invariant is allocated (`glob`); and what all devices together owe a cell is what its
owner waits for (`creds`).
-/
module

public import proofs.«01_k».proof.Proof.Body

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Conjunctions over all cells -/

omit [FloatOps F] [Named F] in
theorem bigSep_ocells (Φ : OCell → sProp 𝕄) :
    bigSep Finset.univ Φ = iprop(Φ oFin
      ∗ ((bigSep Finset.univ fun h : Fin 8 => Φ (oRS h)) ∗ bigSep Finset.univ fun h : Fin 8 => Φ (oRR h))
      ∗ (bigSep Finset.univ fun h : Fin 7 => Φ (oLS h)) ∗ bigSep Finset.univ fun h : Fin 7 => Φ (oLR h)) := by
  rw [bigSep_univ_sum, bigSep_univ_sum, bigSep_univ_sum, bigSep_univ_sum, bigSep_univ_of_subsingleton ()]; rfl
omit [FloatOps F] [Named F] in
theorem bigSep_cells (Φ : Cell → sProp 𝕄) :
    bigSep Finset.univ Φ = iprop(Φ cBar ∗ Φ cFin
      ∗ ((bigSep Finset.univ fun h : Fin 8 => Φ (cRS h)) ∗ bigSep Finset.univ fun h : Fin 8 => Φ (cRR h))
      ∗ (bigSep Finset.univ fun h : Fin 7 => Φ (cLS h)) ∗ bigSep Finset.univ fun h : Fin 7 => Φ (cLR h)) := by
  rw [bigSep_univ_sum, bigSep_univ_of_subsingleton (), bigSep_ocells]; rfl

/-! ## Tokens -/

def ringCells : Finset (GSem nD τ sig) := Finset.univ.map ⟨kcell, kcell_injective⟩

/-- Every cell's duty `false`, and the duty `true` of the two cells that both neighbours pay. -/
abbrev Tok : Type := Cell ⊕ Bool
def tokCell : Tok → Cell
  | .inl k => k
  | .inr false => cBar
  | .inr true => cFin
def tokDuty : Tok → Bool
  | .inl _ => false
  | .inr _ => true
def tokOf (cj : Dev nD × Tok) : GSem nD τ sig × ℕ × Bool := (kcell (cj.1, tokCell cj.2), 0, tokDuty cj.2)
theorem tokOf_injective : Function.Injective tokOf := by
  rintro ⟨c, j⟩ ⟨c', j'⟩ h
  have h1 := kcell_injective (congrArg Prod.fst h)
  have h2 : tokDuty j = tokDuty j' := congrArg (fun x : GSem nD τ sig × ℕ × Bool => x.2.2) h
  have h3 : tokCell j = tokCell j' := congrArg Prod.snd h1
  refine Prod.ext (congrArg (fun x : Dev nD × Cell => x.1) h1) ?_
  rcases j with k | b <;> rcases j' with k' | b'
  · exact congrArg Sum.inl h3
  · cases h2
  · cases h2
  · cases b <;> cases b' <;> first | rfl | cases h3
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The tokens of device `c`'s own cells, -/
def toks (c : Dev nD) : sProp 𝕄 :=
  iprop((bigSep Finset.univ fun k : Cell => dutyTok ER (kcell (c, k)) 0 false)
    ∗ dutyTok ER (kcell (c, cBar)) 0 true ∗ dutyTok ER (kcell (c, cFin)) 0 true)
/-- and those of the payments device `c` makes. -/
def payToks (c : Dev nD) : sProp 𝕄 :=
  iprop((dutyTok ER (kcell (nbr c false, cBar)) 0 true ∗ dutyTok ER (kcell (nbr c true, cBar)) 0 false)
    ∗ (dutyTok ER (kcell (nbr c false, cFin)) 0 true ∗ dutyTok ER (kcell (nbr c true, cFin)) 0 false)
    ∗ ((bigSep Finset.univ fun h : Fin 8 => dutyTok ER (kcell (c, cRS h)) 0 false) ∗ bigSep Finset.univ fun h : Fin 8 => dutyTok ER (kcell (nxt c, cRR h)) 0 false)
    ∗ (bigSep Finset.univ fun h : Fin 7 => dutyTok ER (kcell (c, cLS h)) 0 false) ∗ bigSep Finset.univ fun h : Fin 7 => dutyTok ER (kcell (prv c, cLR h)) 0 false)

omit [FloatOps F] [Named F] in
/-- A conjunction over all devices is one over their right neighbours, -/
theorem over_nxt (Φ : Dev nD → sProp 𝕄) : bigSep Finset.univ Φ = bigSep Finset.univ fun c => Φ (nxt c) := bigSep_univ_equiv ring Φ
omit [FloatOps F] [Named F] in
/-- and one over their left neighbours. -/
theorem over_prv (Φ : Dev nD → sProp 𝕄) : bigSep Finset.univ Φ = bigSep Finset.univ fun c => Φ (prv c) := bigSep_univ_equiv ring.symm Φ

set_option maxRecDepth 10000 in
omit [FloatOps F] [Named F] in
/-- The tokens go to whoever pays. -/
theorem toks_around : (bigSep Finset.univ fun c : Dev nD => (toks c : sProp 𝕄)) ⊢ bigSep Finset.univ fun c : Dev nD => payToks c := by
  unfold toks payToks
  simp only [bigSep_cells, bigSep_sep']
  rw [over_nxt (F := F) fun c => dutyTok ER (kcell (c, cBar)) 0 false, over_nxt (F := F) fun c => dutyTok ER (kcell (c, cFin)) 0 false,
    over_prv (F := F) fun c => dutyTok ER (kcell (c, cBar)) 0 true, over_prv (F := F) fun c => dutyTok ER (kcell (c, cFin)) 0 true,
    over_nxt (F := F) fun c => bigSep Finset.univ fun h : Fin 8 => dutyTok ER (kcell (c, cRR h)) 0 false,
    over_prv (F := F) fun c => bigSep Finset.univ fun h : Fin 7 => dutyTok ER (kcell (c, cLR h)) 0 false]
  iintro ⟨⟨B, E, ⟨RS, RR⟩, LS, LR⟩, B', E'⟩
  isplitl [B B']
  · isplitl [B']; · iexact B'
    iexact B
  isplitl [E E']
  · isplitl [E']; · iexact E'
    iexact E
  isplitl [RS RR]
  · isplitl [RS]; · iexact RS
    iexact RR
  isplitl [LS]; · iexact LS
  iexact LR

/-! ## The invariants -/

/-- What is minted of a device's cells. -/
def G (c : Dev nD) : sProp 𝕄 :=
  iprop((bigSep Finset.univ fun k : Cell => roundState ER (Rd m) (kcell (c, k)) 0)
    ∗ ((bigSep Finset.univ fun k : Cell => atPos ER (kcell (c, k)) 0 ∅ 0) ∗ (bigSep Finset.univ fun k : Cell => reached ER (kcell (c, k)) 0)) ∗ toks c)

/-- Every cell's invariant and that it has reached its round. -/
def known (K : Dev nD × Cell → ℕ) : sProp 𝕄 :=
  iprop((bigSep Finset.univ fun ck : Dev nD × Cell => cellInv ER (Rd m) (K ck) (kcell ck))
    ∗ (bigSep Finset.univ fun ck : Dev nD × Cell => reached ER (kcell ck) 0))
instance known_persistent (K : Dev nD × Cell → ℕ) : BI.Persistent (known (F := F) m K) := by unfold known; infer_instance
theorem records_of (K : Dev nD × Cell → ℕ) : iprop(known m K ∗ levAts L lv) ⊢ records m K := by
  unfold known records
  iintro ⟨⟨A, B⟩, C⟩
  isplitl [A]; · iexact A
  isplitl [B]; · iexact B
  iexact C

/-- What a device is dealt. -/
def G' (c : Dev nD) : sProp 𝕄 :=
  iprop(∃ K, known m K ∗ (bigSep Finset.univ fun k : Cell => atPos ER (kcell (c, k)) 0 ∅ 0) ∗ payToks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks; rw [bigSep_univ_sum, bigSep_univ_eq_bigSepL [false, true] (by decide) (by decide), bigSepL_cons_cons, bigSepL_singleton]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

omit [FloatOps F] [Named F] in
theorem unscopedSems0_eq (c : Dev nD) : (unscopedSems0 c : sProp 𝕄) = semVal (kcell (c, cBar)) 0 := by
  unfold unscopedSems0; rw [bigSep_eq_bigSepL_of_eq [barS] (by decide) (by decide)]; rfl
omit [FloatOps F] [Named F] in
theorem ownSems0_eq (c : Dev nD) : (Pipeline.ownSems0 (Ix := Unit) (Name := ℕ) (U := UU) (Lvl := ℕ) (Val := Elt F) (τ := τ) osem c : sProp 𝕄)
    = bigSep Finset.univ fun k : OCell => semVal (kcell (c, .inr k)) 0 := rfl

omit [FloatOps F] [Named F] in
/-- All the cells' counters, the barrier's and the kernel's own. -/
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [ownSems0_eq, unscopedSems0_eq, bigSep_univ_sum fun k : Cell => semVal (kcell (c, k)) 0, bigSep_univ_of_subsingleton ()]
  show _ ⊢ iprop(semVal (kcell (c, cBar)) 0 ∗ bigSep Finset.univ fun k : OCell => semVal (kcell (c, .inr k)) 0)
  iintro ⟨H, B⟩
  isplitl [B]; · iexact B
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (Rd m) κ (kcell (c, k))))
          ∗ ((bigSep Finset.univ fun k : Cell => atPos ER (kcell (c, k)) 0 ∅ 0) ∗ (bigSep Finset.univ fun k : Cell => reached ER (kcell (c, k)) 0)) ∗ toks c) := by
  unfold G
  iintro ⟨Hos, Hus, Hst, Hat, Htok⟩
  ihave Hv := (sems_eq (F := F) c) $$ [Hos Hus]
  · isplitl [Hos]; · iexact Hos
    iexact Hus
  imod (show iprop((bigSep Finset.univ fun k : Cell => semVal (kcell (c, k)) 0) ∗ bigSep Finset.univ fun k : Cell => roundState ER (Rd m) (kcell (c, k)) 0)
      ⊢ (|={Set.univ}=> bigSep Finset.univ fun k : Cell => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

theorem deal_one (K : Dev nD × Cell → ℕ) (c : Dev nD) :
    iprop(known m K ∗ (bigSep Finset.univ fun k : Cell => atPos ER (kcell (c, k)) 0 ∅ 0) ∗ payToks c) ⊢ G' m c := by
  unfold G'
  iintro H
  iexists K; iexact H

theorem regroup :
    (bigSep Finset.univ fun c : Dev nD => iprop((bigSep Finset.univ fun k : Cell => iprop(∃ κ : ℕ, cellInv ER (Rd m) κ (kcell (c, k))))
          ∗ ((bigSep Finset.univ fun k : Cell => atPos ER (kcell (c, k)) 0 ∅ 0) ∗ (bigSep Finset.univ fun k : Cell => reached ER (kcell (c, k)) 0)) ∗ toks c) : sProp 𝕄)
      ⊢ bigSep Finset.univ (G' m) := by
  rw [bigSep_sep', bigSep_sep', bigSep_sep', ← bigSep_univ_prod (fun ck : Dev nD × Cell => iprop(∃ κ : ℕ, cellInv ER (Rd m) κ (kcell ck))),
    ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (Rd m) κ (kcell ck) : sProp 𝕄))) $$ HI
  icases HK with ⟨%K, #HI⟩
  ihave Htk := (toks_around (F := F)) $$ Htok
  iapply (show iprop(known m K ∗ bigSep Finset.univ fun c : Dev nD => iprop((bigSep Finset.univ fun k : Cell => atPos ER (kcell (c, k)) 0 ∅ 0) ∗ payToks c)) ⊢ bigSep Finset.univ (G' m) from
    (sep_mono_left (BI.bigSep_of_persistent Finset.univ (known m K))).trans
      (by rw [← bigSep_sep']; exact bigSep_mono fun c _ => deal_one m K c))
  isplitr
  · unfold known; isplitl; · iexact HI
    iexact HR
  rw [bigSep_sep']
  isplitl [Hat]; · iexact Hat
  iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What is owed to a cell -/

/-- How many of the listed payments go to a cell. -/
def kcnt : Cell → ℕ
  | cBar => 2
  | cFin => 2
  | cRR _ => 1
  | cLR _ => 1
  | _ => 0
theorem kcnt_eq : ∀ k : Cell, (pays.countP fun p => p.2 = k) = kcnt k := by decide

theorem nbr_nbr (c : Dev nD) (b : Bool) : nbr (nbr c b) (!b) = c := by cases b; exacts [nxt_prv c, prv_nxt c]

/-- A payment goes to the cell `k` of device `c` from one device, if it goes to cells `k`. -/
theorem owed_one (c : Dev nD) (k : Cell) (b : Bool) (k' : Cell) :
    ∑ d : Dev nD, (tallyAt (kcell (nbr d b, k')) () (kamt k') : CellTallies nD τ sig Unit) (kcell (c, k)) () = if k' = k then kamt k else 0 := by
  have h (d : Dev nD) : (tallyAt (kcell (nbr d b, k')) () (kamt k') : CellTallies nD τ sig Unit) (kcell (c, k)) ()
      = if d = nbr c (!b) then (if k' = k then kamt k else 0) else 0 := by
    rw [tallyAt_apply]
    by_cases hk : k' = k
    · subst hk
      by_cases hd : d = nbr c (!b)
      · subst hd
        have e : nbr (nbr c (!b)) b = c := by have := nbr_nbr c (!b); rwa [Bool.not_not] at this
        rw [if_pos ⟨by rw [e], rfl⟩, if_pos rfl, if_pos rfl]
      · rw [if_neg (fun h => hd (by rw [show c = nbr d b from congrArg Prod.fst (kcell_injective h.1), nbr_nbr])), if_neg hd]
    · rw [if_neg (fun h => hk (congrArg Prod.snd (kcell_injective h.1)).symm), if_neg hk]
      split <;> rfl
  rw [Finset.sum_congr rfl fun d _ => h d, Finset.sum_ite_eq' Finset.univ (nbr c (!b)), if_pos (Finset.mem_univ _)]

theorem owed_sum (c : Dev nD) (k : Cell) (l : List (Bool × Cell)) :
    ∑ d : Dev nD, owedL d l (kcell (c, k)) () = (l.countP fun p => p.2 = k) * kamt k := by
  induction l with
  | nil => rw [List.countP_nil, Nat.zero_mul]; exact Finset.sum_eq_zero fun _ _ => rfl
  | cons p l ih =>
    have h (d : Dev nD) : owedL d (p :: l) (kcell (c, k)) () = owedL d l (kcell (c, k)) () + (tallyAt (kcell (nbr d p.1, p.2)) () (kamt p.2) : CellTallies nD τ sig Unit) (kcell (c, k)) () := rfl
    rw [Finset.sum_congr rfl fun d _ => h d, Finset.sum_add_distrib, ih, owed_one, List.countP_cons, Nat.add_mul]
    congr 1
    by_cases hk : p.2 = k
    · rw [if_pos hk, if_pos (decide_eq_true hk), Nat.one_mul]
    · rw [if_neg hk, if_neg (by simpa using hk), Nat.zero_mul]

def O₀ (c : Dev nD) : CellTallies nD τ sig Unit := owedFrom c 0

theorem launch_cell (c : Dev nD) (k : Cell) :
    tallyOn (kcell (c, k)) (launchCredit (Pipeline.owing O₀) 0 (kcell (c, k))) = (tallyAt (kcell (c, k)) () (kcnt k * kamt k) : CellTallies nD τ sig Unit) := by
  unfold tallyAt; refine congrArg _ (Finsupp.ext fun u => ?_); cases u
  rw [show launchCredit (Pipeline.owing O₀) 0 (kcell (c, k)) () = ∑ d : Dev nD, O₀ d (kcell (c, k)) () from Pipeline.launchCredit_owing .., Finsupp.single_eq_same, ← kcnt_eq]
  exact owed_sum c k pays

/-- The credits a device starts with: those of everything its neighbours are to send. -/
def startCred (c : Dev nD) : sProp 𝕄 :=
  iprop(cred (tallyAt (kcell (c, cBar)) () 2) ∗ cred (tallyAt (kcell (c, cFin)) () 2)
    ∗ (bigSep Finset.univ fun h : Fin 8 => cred (tallyAt (kcell (c, cRR h)) () N)) ∗ bigSep Finset.univ fun h : Fin 7 => cred (tallyAt (kcell (c, cLR h)) () N))

set_option maxRecDepth 10000 in
omit [FloatOps F] [Named F] in
theorem creds (c : Dev nD) : (Pipeline.launchCred O₀ c : sProp 𝕄) ⊢ startCred c := by
  unfold Pipeline.launchCred
  refine (BI.bigSep_subset (Finset.subset_univ (Finset.univ.map ⟨sem, sem_injective⟩))).trans ?_
  rw [bigSep_map]
  refine (Entails.of_eq (bigSep_congr fun k _ => show _ = (cred (tallyAt (kcell (c, k)) () (kcnt k * kamt k)) : sProp 𝕄) from congrArg _ (launch_cell c k))).trans ?_
  rw [bigSep_cells]
  unfold startCred
  have eR : ∀ h, kcnt (cRR h) * kamt (cRR h) = N := fun _ => Nat.one_mul _
  have eL : ∀ h, kcnt (cLR h) * kamt (cLR h) = N := fun _ => Nat.one_mul _
  simp only [eR, eL]
  iintro ⟨B, E, ⟨-, RR⟩, -, LR⟩
  isplitl [B]; · iexact B
  isplitl [E]; · iexact E
  isplitl [RR]; · iexact RR
  iexact LR

end Cert.RingAttn

end
-- ==== Proof.Launch.lean ====
/-
# The whole run

On sixteen devices, for any float values and from any memory with every counter at zero: the sixteen kernels run to their
end, and every final state has each device's result array holding `outv`, its arguments as they were, and every counter at
zero (`run_main`).
-/
module

public import proofs.«01_k».proof.Proof.Ghost
public import Idealize.ShloMosaic.Lib.Pipeline.CollectiveSegs

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- What a device has before the region, -/
def start (c : Dev nD) : sProp 𝕄 := iprop(G' m c ∗ startCred c ∗ levAts L lv)
/-- when its body starts, -/
def Φ₀ (c : Dev nD) : sProp 𝕄 := iprop(start m c ∗ ∃ f, (((c : Thread nD τ).loc cc0_scratch0) ↦{fullShare} f))
/-- and when it has ended. -/
def Φ₁ (c : Dev nD) : sProp 𝕄 := iprop((∃ f, (((c : Thread nD τ).loc cc0_scratch0) ↦{fullShare} f)) ∗ Quiet c ∗ ZV c cFin)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qin m c
    | ⟨1, _⟩ => kin m c
    | ⟨2, _⟩ => vin m c
    | ⟨3, _⟩ => outv m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition as the pipeline states it, -/
def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
/-- and its postcondition. -/
def bodyPost (c : Dev nD) : sProp 𝕄 :=
  iprop(Φ₁ c ∗ (dats m ρ 0 c).owesAt () t0_0.succ
    ∗ stg c cc0_stg0_0 (qin m c) ∗ stg c cc0_stg1_0 (kin m c) ∗ stg c cc0_stg2_0 (vin m c) ∗ stg c cc0_stg3_0 (outv m c))

theorem before_q (c : Dev nD) (d) : (dats m ρ 0 c).before (0 : Fin 4) t0_0 d = qin m c := by
  unfold Dat.before; rw [if_pos (show (cfg0.win (0 : Fin 4)).fetch t0_0 = true from rfl)]; rfl
theorem before_k (c : Dev nD) (d) : (dats m ρ 0 c).before (1 : Fin 4) t0_0 d = kin m c := by
  unfold Dat.before; rw [if_pos (show (cfg0.win (1 : Fin 4)).fetch t0_0 = true from rfl)]; rfl
theorem before_v (c : Dev nD) (d) : (dats m ρ 0 c).before (2 : Fin 4) t0_0 d = vin m c := by
  unfold Dat.before; rw [if_pos (show (cfg0.win (2 : Fin 4)).fetch t0_0 = true from rfl)]; rfl

set_option maxRecDepth 10000 in
/-- A device's start holds all that its body takes. -/
theorem body_start (c : Dev nD) (g : (cc0_stg3_0 : Ref sig .tc).ty.Contents (Elt F)) :
    iprop(Φ₀ m c ∗ OW c 0 ∗ Staged m c ∗ (((c : Thread nD τ).loc cc0_stg3_0) ↦{fullShare} g)) ⊢ iprop(∃ K f, bodyIn m K c f g) := by
  unfold Φ₀ start G' startCred payToks
  rw [bigSep_cells]
  iintro ⟨⟨⟨⟨%K, Hkn, ⟨AB, AF, ⟨ARS, ARR⟩, ALS, ALR⟩, TB, TF, ⟨TRS, TRR⟩, TLS, TLR⟩, ⟨CB, CF, CRR, CLR⟩, Hlev⟩, ⟨%f, Hscr⟩⟩, HO, HS, Hout⟩
  iexists K; iexists f
  unfold bodyIn Shake RPre LPre WT
  simp only [bigSep_sep']
  isplitl [Hkn Hlev]
  · iapply (records_of m K); isplitl [Hkn]; · iexact Hkn
    iexact Hlev
  isplitl [AB TB CB]
  · icases TB with ⟨T1, T2⟩
    isplitl [T1]; · iexact T1
    isplitl [T2]; · iexact T2
    isplitl [CB]; · iexact CB
    iexact AB
  isplitl [AF TF CF]
  · icases TF with ⟨T1, T2⟩
    isplitl [T1]; · iexact T1
    isplitl [T2]; · iexact T2
    isplitl [CF]; · iexact CF
    iexact AF
  isplitl [TRS TRR ARS ARR CRR]
  · isplitl [TRS]; · iexact TRS
    isplitl [TRR]; · iexact TRR
    isplitl [ARS]; · iexact ARS
    isplitl [CRR]; · iexact CRR
    iexact ARR
  isplitl [TLS TLR ALS ALR CLR]
  · isplitl [TLS]; · iexact TLS
    isplitl [TLR]; · iexact TLR
    isplitl [ALS]; · iexact ALS
    isplitl [CLR]; · iexact CLR
    iexact ALR
  isplitl [HO]; · iexact HO
  isplitl [HS]; · iexact HS
  isplitl [Hscr]; · iexact Hscr
  iexact Hout

set_option maxRecDepth 10000 in
theorem sound_body (c : Dev nD) :
    bodyPre m ρ c ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scoped0) (fun _ => bodyPost m ρ c) := by
  unfold bodyPre
  iintro ⟨HΦ, Ho, ⟨%d0, %g0, %h0, HQ⟩, ⟨%d1, %g1, %h1, HK⟩, ⟨%d2, %g2, %h2, HV⟩, ⟨%d3, %g, %h3, Hout⟩⟩
  rw [before_q] at h0; rw [before_k] at h1; rw [before_v] at h2
  subst h0 h1 h2
  unfold Dat.owesAt Pipeline.owesWithin
  icases Ho with ⟨%W, %hW, HO⟩
  ihave H := (body_start m c g) $$ [HΦ HO HQ HK HV Hout]
  · isplitl [HΦ]; · iexact HΦ
    isplitl [HO]; · unfold OW; iexists W; iexact HO
    isplitl [HQ HK HV]
    · unfold Staged
      isplitl [HQ]; · iexact HQ
      isplitl [HK]; · iexact HK
      iexact HV
    iexact Hout
  icases H with ⟨%K, %f, H⟩
  iapply (body_run m K c f g) $$ H
  unfold bodyOut Staged OW
  iintro ⟨⟨%W', HO⟩, ⟨HQ, HK, HV⟩, Hscr, Hout, HZ, HF⟩
  unfold bodyPost Φ₁ Dat.owesAt Pipeline.owesWithin
  isplitl [Hscr HZ HF]
  · isplitl [Hscr]; · iexists _; iexact Hscr
    isplitl [HZ]; · iexact HZ
    iexact HF
  isplitl [HO]
  · iexists W'
    isplitr; · ipureintro; exact fun _ _ => Or.inl trivial
    iexact HO
  isplitl [HQ]
  · iexists _; isplitr; · (ipureintro; rfl)
    iexact HQ
  isplitl [HK]
  · iexists _; isplitr; · (ipureintro; rfl)
    iexact HK
  isplitl [HV]
  · iexists _; isplitr; · (ipureintro; rfl)
    iexact HV
  iexists _; isplitr; · (ipureintro; rfl)
  iexact Hout

set_option maxRecDepth 10000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The launch -/

theorem ownSemFacts : Pipeline.OwnSemFacts cfg0.spec osem := by decide
theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq, bigSep_ocells]
  unfold Φ₁ Quiet ZV
  iintro ⟨Hr, ⟨ZB, RS, RR, LS, LR⟩, ZF⟩
  isplitl [ZB]; · iexact ZB
  isplitr [Hr]
  · isplitl [ZF]; · iexact ZF
    isplitl [RS RR]
    · isplitl [RS]; · iexact RS
      iexact RR
    isplitl [LS]; · iexact LS
    iexact LR
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> decide) 0
    · exact mayWait_stage c _ (by fin_cases w <;> fin_cases s <;> decide) 19

/-- What a device's arrays hold at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 10000 in
/-- Every fair execution ends; each device's arrays then hold `finalA`, and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The arguments' arrays are as they were, -/
theorem finalA_q (c : Dev nD) : finalA m ρ c (0 : Fin 4) = m ((c : Thread nD τ).loc main_arg0) := (dats (F := F) m ρ 0 c).arrAt_in (0 : Fin 4) rfl _
theorem finalA_k (c : Dev nD) : finalA m ρ c (1 : Fin 4) = m ((c : Thread nD τ).loc main_arg1) := (dats (F := F) m ρ 0 c).arrAt_in (1 : Fin 4) rfl _
theorem finalA_v (c : Dev nD) : finalA m ρ c (2 : Fin 4) = m ((c : Thread nD τ).loc main_arg2) := (dats (F := F) m ρ 0 c).arrAt_in (2 : Fin 4) rfl _

end Cert.RingAttn

end
-- ==== Proof.Frames.lean ====
/-
# The runs end, at both float instances

The kernel as written is, at the bit patterns, the kernel with the scale named: the name stands there for the literal.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- At the bit patterns a name is the literal it was given for. -/
local instance literal : Named Bits where
  named _ _ _ lit := lit

/-- Every fair run ends, the arguments as they were, every counter zero. -/
theorem ends (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0 :=
  (θ_run defs _ _).mono (fun _ h => ⟨fun c => ⟨(h.1 c (0 : Fin 4)).trans (finalA_q m ρ c), (h.1 c (1 : Fin 4)).trans (finalA_k m ρ c),
    (h.1 c (2 : Fin 4)).trans (finalA_v m ρ c)⟩, h.2⟩) (run_main m ρ)

/-! ## The two programs are one at the bit patterns -/

set_option maxRecDepth 10000 in
theorem body_eq : Cert.Kernel.cc0_body (F := Bits) = cc0_body (F := Bits) := rfl
set_option maxRecDepth 10000 in
theorem defs₀_eq : Cert.Kernel.defs₀ (F := Bits) = defs₀ (F := Bits) := by
  unfold Cert.Kernel.defs₀ defs₀
  rw [body_eq]
  refine congrArg _ ?_
  funext l x
  match l, x with
  | 0, (t, s) => rfl
set_option maxRecDepth 10000 in
theorem defs_eq : Cert.Kernel.defs (F := Bits) = defs (F := Bits) := by
  unfold Cert.Kernel.defs defs
  rw [defs₀_eq]; rfl
/-! ## The frames -/

set_option maxRecDepth 10000 in
theorem frame_kernel : Cert.quiescent_Kernel := fun m ρ _ => by
  rw [defs_eq]
  exact ends (F := Bits) m ρ

theorem frame_ideal_pre [Cert.Pre_finite_qk_KernelIdeal.Facts] : Cert.quiescent_KernelIdeal_pre_finite_qk_KernelIdeal :=
  fun m ρ _ => ends (F := Ideal) m ρ

theorem frame_ideal : Cert.quiescent_KernelIdeal := fun m ρ _ => ends (F := Ideal) m ρ

theorem frame_reference_pre [Cert.Pre_finite_qk_ReferenceIdeal.Facts] : Cert.quiescent_ReferenceIdeal_pre_finite_qk_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named scale is the real `(√128)⁻¹`. -/
theorem preserves : Cert.preserves_Kernel_KernelIdeal :=
  IdealRules.named_const.statement Cert.KernelIdeal.κ "inv_sqrt_d" .f32 0x3DB504F3#32 (((Real.sqrt 128)⁻¹ : ℝ) : EReal) rfl

end Cert.RingAttn

end
-- ==== Proof.Fold.lean ====
/-
# One update, sixteen times

The kernel's row sums `l` and weighted sums `acc` after every block are one update, `stepL` and `stepA`, of those before it.
-/
module

public import proofs.«01_k».proof.Proof.Values

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
variable (c : Dev nD)

/-- The weights of one block's keys: `e` to the scaled scores less three. -/
def prob (qb : FVec F S512x128 .bf16) (kblk : FVec F S1x1x512x128 .bf16) : FVec F S512x512 .f32 :=
  exp (subf (mulf (matmul dot_S512x128_S128x512_S512x512_1_0_0_1_n_n none qb
      (transpose S128x512 [1, 0] (shapeCast S512x128 kblk shapeCasts_S1x1x512x128_S512x128) transposes_S512x128_p1_0_S128x512)
      (constant S512x512 .f32 0x00000000#32))
    (broadcast S512x512 (Named.named κ "inv_sqrt_d" 0x3DB504F3#32)))
    (broadcast S512x512 (Scalar.ofBits .f32 0x40400000#32)))

/-- The row sums after one more block, -/
def stepL (qb : FVec F S512x128 .bf16) (l : FVec F S512x1 .f32) (kblk : FVec F S1x1x512x128 .bf16) : FVec F S512x1 .f32 :=
  addf l (shapeCast S512x1 (multiReduction .add [1] S512 (prob qb kblk) 0x00000000#32 reduces_S512x512_S512 (.inl rfl) rfl) shapeCasts_S512_S512x1)

/-- and the weighted sums of the values. -/
def stepA (qb : FVec F S512x128 .bf16) (acc : FVec F S512x128 .f32) (kblk vblk : FVec F S1x1x512x128 .bf16) : FVec F S512x128 .f32 :=
  addf acc (matmul dot_S512x512_S512x128_S512x128_1_0_0_1_n_n none (truncf .bf16 (prob qb kblk) bitsLt_bf16_f32)
    (shapeCast S512x128 vblk shapeCasts_S1x1x512x128_S512x128) (constant S512x128 .f32 0x00000000#32))

/-- The block of keys in slot `j`, -/
abbrev ks (j : Fin 16) : FVec F S1x1x512x128 .bf16 := kb m (org c j.val)
/-- and of values. -/
abbrev vs (j : Fin 16) : FVec F S1x1x512x128 .bf16 := vb m (org c j.val)

theorem l0 : d122 m c = stepL (d86 m c) d87 (ks m c 0) := rfl
theorem l1 : d187 m c = stepL (d86 m c) (d122 m c) (ks m c 1) := rfl
theorem l15 : d204 m c = stepL (d86 m c) (d187 m c) (ks m c 15) := rfl
theorem l2 : d269 m c = stepL (d86 m c) (d204 m c) (ks m c 2) := rfl
theorem l14 : d286 m c = stepL (d86 m c) (d269 m c) (ks m c 14) := rfl
theorem l13 : d368 m c = stepL (d86 m c) (stepL (d86 m c) (d286 m c) (ks m c 3)) (ks m c 13) := rfl
theorem l12 : d450 m c = stepL (d86 m c) (stepL (d86 m c) (d368 m c) (ks m c 4)) (ks m c 12) := rfl
theorem l11 : d532 m c = stepL (d86 m c) (stepL (d86 m c) (d450 m c) (ks m c 5)) (ks m c 11) := rfl
theorem l10 : d614 m c = stepL (d86 m c) (stepL (d86 m c) (d532 m c) (ks m c 6)) (ks m c 10) := rfl
theorem l7 : d669 m c = stepL (d86 m c) (d614 m c) (ks m c 7) := rfl
theorem l9 : d686 m c = stepL (d86 m c) (d669 m c) (ks m c 9) := rfl
theorem l8 : d717 m c = stepL (d86 m c) (d686 m c) (ks m c 8) := rfl

theorem a0 : d125 m c = stepA (d86 m c) d88 (ks m c 0) (vs m c 0) := rfl
theorem a1 : d190 m c = stepA (d86 m c) (d125 m c) (ks m c 1) (vs m c 1) := rfl
theorem a15 : d207 m c = stepA (d86 m c) (d190 m c) (ks m c 15) (vs m c 15) := rfl
theorem a14 : d289 m c = stepA (d86 m c) (stepA (d86 m c) (d207 m c) (ks m c 2) (vs m c 2)) (ks m c 14) (vs m c 14) := rfl
theorem a13 : d371 m c = stepA (d86 m c) (stepA (d86 m c) (d289 m c) (ks m c 3) (vs m c 3)) (ks m c 13) (vs m c 13) := rfl
theorem a12 : d453 m c = stepA (d86 m c) (stepA (d86 m c) (d371 m c) (ks m c 4) (vs m c 4)) (ks m c 12) (vs m c 12) := rfl
theorem a11 : d535 m c = stepA (d86 m c) (stepA (d86 m c) (d453 m c) (ks m c 5) (vs m c 5)) (ks m c 11) (vs m c 11) := rfl
theorem a10 : d617 m c = stepA (d86 m c) (stepA (d86 m c) (d535 m c) (ks m c 6) (vs m c 6)) (ks m c 10) (vs m c 10) := rfl
theorem a7 : d672 m c = stepA (d86 m c) (d617 m c) (ks m c 7) (vs m c 7) := rfl
theorem a9 : d689 m c = stepA (d86 m c) (d672 m c) (ks m c 9) (vs m c 9) := rfl

/-- The result divides the weighted sums, with the last block's, by the row sums. -/
theorem out_eq : outv m c = divf (stepA (d86 m c) (d689 m c) (ks m c 8) (vs m c 8)) (broadcastTo S512x128 (d717 m c) broadcasts_S512x1_S512x128) := rfl

end Cert.RingAttn

end
-- ==== Proof.Rows.lean ====
/-
# Rows of a matrix

A sum along a matrix's rows names an element by its row and a coordinate of the row put back: the element at both.
-/
module

public import Idealize.ShloMosaic.Lib.ValueIdxCore
public import Idealize.ShloMosaic.PureOps.Ideal.Laws

@[expose] public section

namespace Cert.Rows

open Idealize.ShloMosaic Idealize.ShloMosaic.ValueIdx

/-- The index of a row of `[a, b]` with a coordinate of the second axis put back. -/
theorem lift_row {a b : ℕ} (h : (⟨2, ![a, b]⟩ : Shape).Reduces [1] ⟨1, ![a]⟩) (r : Fin a) (k : Fin b) :
    h.lift (ix1 r) k = ix2 r k := by
  funext x
  refine Fin.ext ?_
  match x with
  | ⟨0, _⟩ => rfl
  | ⟨1, _⟩ => rfl

end Cert.Rows

end
-- ==== Proof.Step.lean ====
/-
# The kernel's result at one index, on the extended reals

Row `r`, column `x` of a device's result: the sums over the sixteen slots and their keys, the one divided by the other.
-/
module

public import proofs.«01_k».proof.Proof.Fold
public import proofs.«01_k».proof.Proof.Rows
public import Idealize.ShloMosaic.Lib.MatmulPlain
public import Idealize.ShloMosaic.Lib.ValueLayout
public import Idealize.ShloMosaic.Lib.ValueLayoutCasts
public import Idealize.ShloMosaic.PureOps.Ideal.Laws

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
open Idealize.ShloMosaic.ValueIdx
open scoped BigOperators

variable (mI : (ℓ : Loc nD τ sig) → Buf (Elt Ideal) ℓ) (c : Dev nD)

/-- The scale's name stands for the reciprocal of the root of 128. -/
theorem scale_eq : Named.named (F := Ideal) κ "inv_sqrt_d" (φ := .f32) 0x3DB504F3#32 = (((Real.sqrt 128)⁻¹ : ℝ) : EReal) :=
  IdealRules.named_const.ideal_named_scalar _ _ _ _ rfl

theorem three_eq : (Scalar.ofBits .f32 0x40400000#32 : Ideal .f32) = ((3 : ℝ) : EReal) := by
  show Ideal.ofBits .f32 0x40400000#32 = _
  simp [Ideal.ofBits, Ideal.ieee, -EReal.coe_mul]; norm_num

/-- A block cast to two axes. -/
theorem flat_apply {α : Type} (x : S1x1x512x128.Idx → α) (k : Fin 512) (i : Fin 128) :
    shapeCast S512x128 x shapeCasts_S1x1x512x128_S512x128 (ix2 k i) = x (ix4 (0 : Fin 1) (0 : Fin 1) k i) :=
  congrArg x (reshapeEquiv_ix2_11ab _ k i)

/-- The weight of key `k` of a block for query `r`. -/
theorem prob_apply (qb : FVec Ideal S512x128 .bf16) (kblk : FVec Ideal S1x1x512x128 .bf16) (r k : Fin 512) :
    prob qb kblk (ix2 r k)
      = Ideal.exp ((∑ i : Fin 128, qb (ix2 r i) * kblk (ix4 (0 : Fin 1) (0 : Fin 1) k i)) * (((Real.sqrt 128)⁻¹ : ℝ) : EReal) - ((3 : ℝ) : EReal)) := by
  show Ideal.exp (FloatOps.matmul (DotDims.plain 512 128 512) none qb (transpose S128x512 [1, 0] (shapeCast S512x128 kblk shapeCasts_S1x1x512x128_S512x128) transposes_S512x128_p1_0_S128x512)
      (constant S512x512 .f32 0x00000000#32) (ix2 r k) * Named.named (F := Ideal) κ "inv_sqrt_d" (φ := .f32) 0x3DB504F3#32 - (Scalar.ofBits .f32 0x40400000#32 : Ideal .f32)) = _
  rw [scale_eq, three_eq, Ideal.matmul_plain_apply]
  rw [show (constant S512x512 .f32 0x00000000#32 : FVec Ideal S512x512 .f32) (ix2 r k) = 0 from Ideal.ofBits_zero_f32, zero_add]
  refine congrArg (fun s : EReal => Ideal.exp (s * _ - _)) (Finset.sum_congr rfl fun i _ => ?_)
  rw [show (transpose S128x512 [1, 0] (shapeCast S512x128 kblk shapeCasts_S1x1x512x128_S512x128) transposes_S512x128_p1_0_S128x512) (ix2 i k)
    = kblk (ix4 (0 : Fin 1) (0 : Fin 1) k i) from (transpose_ix2_apply _ _ i k).trans (flat_apply kblk k i)]

/-- One update of a row's sum, -/
theorem stepL_apply (qb : FVec Ideal S512x128 .bf16) (l : FVec Ideal S512x1 .f32) (kblk : FVec Ideal S1x1x512x128 .bf16) (r : Fin 512) (u : Fin 1) :
    stepL qb l kblk (ix2 r u) = l (ix2 r u) + ∑ k : Fin 512, prob qb kblk (ix2 r k) := by
  refine congrArg (fun s : EReal => l (ix2 r u) + s) ?_
  refine (shapeCast_a_a1_apply _ _ r u).trans ?_
  refine (Ideal.multiReduction_add_single (prob qb kblk) _ reduces_S512x512_S512 _ _ (ix1 r)).trans (Finset.sum_congr rfl fun k _ => ?_)
  exact congrArg (prob qb kblk) (Rows.lift_row reduces_S512x512_S512 r k)

/-- and of an element of the weighted sums. -/
theorem stepA_apply (qb : FVec Ideal S512x128 .bf16) (acc : FVec Ideal S512x128 .f32) (kblk vblk : FVec Ideal S1x1x512x128 .bf16) (r : Fin 512) (x : Fin 128) :
    stepA qb acc kblk vblk (ix2 r x) = acc (ix2 r x) + ∑ k : Fin 512, prob qb kblk (ix2 r k) * vblk (ix4 (0 : Fin 1) (0 : Fin 1) k x) := by
  refine congrArg (fun s : EReal => acc (ix2 r x) + s) ?_
  refine (Ideal.matmul_plain_apply (M := 512) (K := 512) (N := 128) none _ _ _ r x).trans ?_
  rw [show (constant S512x128 .f32 0x00000000#32 : FVec Ideal S512x128 .f32) (ix2 r x) = 0 from Ideal.ofBits_zero_f32, zero_add]
  exact Finset.sum_congr rfl fun k _ => congrArg (fun s : EReal => prob qb kblk (ix2 r k) * s) (flat_apply vblk k x)

/-- Before the first block both are zero. -/
theorem l_start (r : Fin 512) (u : Fin 1) : (d87 (F := Ideal)) (ix2 r u) = 0 := Ideal.ofBits_zero_f32
theorem a_start (r : Fin 512) (x : Fin 128) : (d88 (F := Ideal)) (ix2 r x) = 0 := Ideal.ofBits_zero_f32

/-- A sum over the slots, in the order the kernel takes them. -/
theorem slot_order (f : Fin 16 → EReal) :
    0 + f 0 + f 1 + f 15 + f 2 + f 14 + f 3 + f 13 + f 4 + f 12 + f 5 + f 11 + f 6 + f 10 + f 7 + f 9 + f 8 = ∑ j, f j := by
  simp only [Fin.sum_univ_succ, Fin.sum_univ_zero, zero_add, add_zero]
  show f 0 + f 1 + f 15 + f 2 + f 14 + f 3 + f 13 + f 4 + f 12 + f 5 + f 11 + f 6 + f 10 + f 7 + f 9 + f 8
    = f 0 + (f 1 + (f 2 + (f 3 + (f 4 + (f 5 + (f 6 + (f 7 + (f 8 + (f 9 + (f 10 + (f 11 + (f 12 + (f 13 + (f 14 + f 15))))))))))))))
  abel

/-- The row sums after the last block, -/
theorem l_end (r : Fin 512) (u : Fin 1) :
    d717 mI c (ix2 r u) = ∑ j : Fin 16, ∑ k : Fin 512, prob (d86 mI c) (ks mI c j) (ix2 r k) := by
  rw [← slot_order (fun j => ∑ k : Fin 512, prob (d86 mI c) (ks mI c j) (ix2 r k))]
  simp only [l8, l9, l7, l10, l11, l12, l13, l14, l2, l15, l1, l0, stepL_apply, l_start]

/-- and the weighted sums. -/
theorem a_end (r : Fin 512) (x : Fin 128) :
    stepA (d86 mI c) (d689 mI c) (ks mI c 8) (vs mI c 8) (ix2 r x)
      = ∑ j : Fin 16, ∑ k : Fin 512, prob (d86 mI c) (ks mI c j) (ix2 r k) * vs mI c j (ix4 (0 : Fin 1) (0 : Fin 1) k x) := by
  rw [← slot_order (fun j => ∑ k : Fin 512, prob (d86 mI c) (ks mI c j) (ix2 r k) * vs mI c j (ix4 (0 : Fin 1) (0 : Fin 1) k x))]
  simp only [a9, a7, a10, a11, a12, a13, a14, a15, a1, a0, stepA_apply, a_start]

/-- **The result at one index.** -/
theorem out_apply (r : Fin 512) (x : Fin 128) :
    outv mI c (ix2 r x)
      = Ideal.div (∑ j : Fin 16, ∑ k : Fin 512, prob (d86 mI c) (ks mI c j) (ix2 r k) * vs mI c j (ix4 (0 : Fin 1) (0 : Fin 1) k x))
          (∑ j : Fin 16, ∑ k : Fin 512, prob (d86 mI c) (ks mI c j) (ix2 r k)) := by
  rw [out_eq, ← a_end, ← l_end mI c r 0]
  refine congrArg (Ideal.div _) (broadcastTo_apply _ _ _ _ fun a => ?_)
  match a with
  | ⟨0, _⟩ => rfl
  | ⟨1, _⟩ => rfl

end Cert.RingAttn

end
-- ==== Proof.Arrays.lean ====
/-
# Whole arrays

Each window is one block and covers its array: what the kernel reads of an argument is the argument, and the result's array
ends with what the body left.
-/
module

public import proofs.«01_k».proof.Proof.Launch
public import proofs.«01_k».proof.Proof.Step

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
open Idealize.ShloMosaic.ValueIdx

variable (c : Dev nD)

/-- Every window's only block starts at the array's first element. -/
theorem at_q (y : S512x128.Idx) : ((win0_0.blk (0 : Fin 1)).view.emb y : S512x128.Idx) = y :=
  funext fun a => Fin.ext (Pipeline.Window.rect_emb_val_of_index_zero win0_0 (0 : Fin 1) a (by revert a; decide) y)
theorem at_k (y : S512x128.Idx) : ((win0_1.blk (0 : Fin 1)).view.emb y : S512x128.Idx) = y :=
  funext fun a => Fin.ext (Pipeline.Window.rect_emb_val_of_index_zero win0_1 (0 : Fin 1) a (by revert a; decide) y)
theorem at_v (y : S512x128.Idx) : ((win0_2.blk (0 : Fin 1)).view.emb y : S512x128.Idx) = y :=
  funext fun a => Fin.ext (Pipeline.Window.rect_emb_val_of_index_zero win0_2 (0 : Fin 1) a (by revert a; decide) y)
theorem at_o (y : S512x128.Idx) : ((win0_3.blk (0 : Fin 1)).view.emb y : S512x128.Idx) = y :=
  funext fun a => Fin.ext (Pipeline.Window.rect_emb_val_of_index_zero win0_3 (0 : Fin 1) a (by revert a; decide) y)

theorem qin_eq : (qin m c : FVec F S512x128 .f32) = m ((c : Thread nD τ).loc main_arg0) :=
  funext fun y => congrArg (m ((c : Thread nD τ).loc main_arg0)) (at_q y)
theorem kin_eq : (kin m c : FVec F S512x128 .f32) = m ((c : Thread nD τ).loc main_arg1) :=
  funext fun y => congrArg (m ((c : Thread nD τ).loc main_arg1)) (at_k y)
theorem vin_eq : (vin m c : FVec F S512x128 .f32) = m ((c : Thread nD τ).loc main_arg2) :=
  funext fun y => congrArg (m ((c : Thread nD τ).loc main_arg2)) (at_v y)

/-- The result's array ends with the block the body left. -/
theorem finalA_out : (finalA m ρ c (3 : Fin 4) : FVec F S512x128 .f32) = outv m c := by
  funext y
  have h := Pipeline.Dat.arrAt_emb_eq_flushed (dats m ρ 0 c) (3 : Fin 4)
    (fun t t' _ _ hne => absurd (Subsingleton.elim (α := Fin 1) t t') hne) (0 : Fin 1) (by decide) y
  exact (congrArg (finalA m ρ c (3 : Fin 4)) (at_o y)).symm.trans h

variable (mI : (ℓ : Loc nD τ sig) → Buf (Elt Ideal) ℓ)

/-- The queries the kernel holds are the argument's, -/
theorem q_apply (r : Fin 512) (i : Fin 128) : d86 mI c (ix2 r i) = (mI ((c : Thread nD τ).loc main_arg0) : FVec Ideal S512x128 .f32) (ix2 r i) := by
  rw [← qin_eq mI c]
  exact shapeCast_apply (qin mI c) shapeCasts_S512x128_S512x128 (ix2 r i) (ix2 r i) rfl

/-- the keys in slot `j` are those of device `org c j`, -/
theorem k_apply (j : Fin 16) (k : Fin 512) (i : Fin 128) :
    ks mI c j (ix4 (0 : Fin 1) (0 : Fin 1) k i) = (mI ((org c j.val : Thread nD τ).loc main_arg1) : FVec Ideal S512x128 .f32) (ix2 k i) := by
  rw [← kin_eq mI (org c j.val)]
  show shapeCast S1x1x512x128 (shapeCast S512x128 (kin mI (org c j.val)) shapeCasts_S512x128_S512x128) shapeCasts_S512x128_S1x1x512x128 (ix4 (0 : Fin 1) (0 : Fin 1) k i) = _
  refine (shapeCast_apply _ _ _ (ix2 k i) ?_).trans (shapeCast_apply _ _ _ _ rfl)
  rw [Shape.rowMajor_val_four, Shape.rowMajor_val_two]
  show k.val * 128 + i.val = ((0 * 1 + 0) * 512 + k.val) * 128 + i.val
  omega

/-- and so are its values. -/
theorem v_apply (j : Fin 16) (k : Fin 512) (i : Fin 128) :
    vs mI c j (ix4 (0 : Fin 1) (0 : Fin 1) k i) = (mI ((org c j.val : Thread nD τ).loc main_arg2) : FVec Ideal S512x128 .f32) (ix2 k i) := by
  rw [← vin_eq mI (org c j.val)]
  show shapeCast S1x1x512x128 (shapeCast S512x128 (vin mI (org c j.val)) shapeCasts_S512x128_S512x128) shapeCasts_S512x128_S1x1x512x128 (ix4 (0 : Fin 1) (0 : Fin 1) k i) = _
  refine (shapeCast_apply _ _ _ (ix2 k i) ?_).trans (shapeCast_apply _ _ _ _ rfl)
  rw [Shape.rowMajor_val_four, Shape.rowMajor_val_two]
  show k.val * 128 + i.val = ((0 * 1 + 0) * 512 + k.val) * 128 + i.val
  omega

end Cert.RingAttn

end
-- ==== Proof.Reference.lean ====
/-
# The reference's result at one index, on the extended reals

Row `R`, column `x` of attention over all the keys: the weights `e^(s - M) / Σ e^(s - M)`, `M` the row's greatest score, times
the values.
-/
module

public import proofs.«01_k».proof.Proof.Rows
public import proofs.«01_k».proof.Proof.Gen.ReferenceIdeal.Run
public import Idealize.ShloMosaic.Lib.StackMember
public import Idealize.ShloMosaic.Lib.ValueLayout
public import Idealize.ShloMosaic.Lib.KernelVsHost
public import Idealize.ShloMosaic.Lib.IdealHost
public import Idealize.ShloMosaic.PureOps.Ideal.Laws

@[expose] public section

noncomputable section

namespace Cert.Attention

open Cert.ReferenceIdeal Cert.ReferenceIdeal.Gen
open Idealize.ShloMosaic Idealize.ShloMosaic.ValueIdx
open Idealize.SL.Sem
open scoped BigOperators

variable (Q K V : FVec Ideal S8192x128 .f32)

/-- The scaled scores, -/
def score : FVec Ideal S8192x8192 .f32 :=
  Host.divf (Host.dotGeneral dot_S8192x128_S128x8192_S8192x8192_1_0_0_1_n_n none Q (transpose S128x8192 [1, 0] K transposes_S8192x128_S128x8192_1_0))
    (broadcastInDim S8192x8192 ![] bcast_S_S8192x8192 (id (Host.sqrt (constant S_ .f32 0x43000000#32))))

/-- each row's greatest, -/
def top (S : FVec Ideal S8192x8192 .f32) : FVec Ideal S8192 .f32 :=
  Host.reduce FloatOps.maximumf S (constant S_ .f32 0xFF800000#32) reducesTo_S8192x8192_S8192_d1 h_S_

/-- a column spread over its rows, -/
def spread (x : FVec Ideal S8192 .f32) : FVec Ideal S8192x8192 .f32 :=
  broadcastInDim S8192x8192 ![0, 1] bcast_S8192x1_S8192x8192_0_1 (broadcastInDim S8192x1 ![0] bcast_S8192_S8192x1_0 x)

/-- `e` to the scores less the row's greatest, -/
def power (S : FVec Ideal S8192x8192 .f32) : FVec Ideal S8192x8192 .f32 := Host.exp (subf S (spread (top S)))

/-- their sums by row, -/
def total (E : FVec Ideal S8192x8192 .f32) : FVec Ideal S8192 .f32 :=
  Host.reduceAdd E (constant S_ .f32 0x00000000#32) reducesTo_S8192x8192_S8192_d1 h_S_

/-- and the result. -/
def attention : FVec Ideal S8192x128 .f32 :=
  Host.dotGeneral dot_S8192x8192_S8192x128_S8192x128_1_0_0_1_n_n none
    (Host.divf (power (score Q K)) (spread (total (power (score Q K))))) V

/-- The reference program's result is `attention` of its arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15)
          = attention (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

theorem root_eq : Ideal.sqrt (Ideal.ofBits .f32 0x43000000#32) = ((Real.sqrt 128 : ℝ) : EReal) := by
  rw [show Ideal.ofBits .f32 0x43000000#32 = ((128 : ℝ) : EReal) from by simp [Ideal.ofBits, Ideal.ieee, -EReal.coe_mul]; norm_num, Ideal.sqrt_coe,
    if_neg (by norm_num)]

theorem bottom_eq : Ideal.ofBits .f32 0xFF800000#32 = (⊥ : EReal) := by
  simp [Ideal.ofBits, Ideal.ieee]

theorem score_apply (R T : Fin 8192) :
    score Q K (ix2 R T) = (∑ i : Fin 128, Q (ix2 R i) * K (ix2 T i)) * (((Real.sqrt 128)⁻¹ : ℝ) : EReal) := by
  show Ideal.div (Host.dotGeneral (DotDims.plain 8192 128 8192) none Q (transpose S128x8192 [1, 0] K transposes_S8192x128_S128x8192_1_0) (ix2 R T))
    (Ideal.sqrt (Ideal.ofBits .f32 0x43000000#32)) = _
  rw [root_eq, Ideal.div_coe (Real.sqrt_ne_zero'.mpr (by norm_num)), StackMember.dotGeneral_plain_apply, one_div]
  refine congrArg (fun s : EReal => s * _) (Finset.sum_congr rfl fun i _ => ?_)
  exact congrArg (fun s : EReal => Q (ix2 R i) * s) (transpose_ix2_apply _ _ i T)

theorem rows_reduce : S8192x8192.Reduces [1] S8192 := by decide

theorem top_apply (S : FVec Ideal S8192x8192 .f32) (R : Fin 8192) :
    top S (ix1 R) = (Finset.univ : Finset (Fin 8192)).fold max (⊥ : EReal) (fun T => S (ix2 R T)) := by
  unfold top
  refine (congrFun (hostReduce_maximumf_eq_multiReduction S 0xFF800000#32 _ _ rows_reduce (.inl rfl) rfl) (ix1 R)).trans ?_
  refine (Ideal.multiReduction_maximumf_single S _ rows_reduce _ _ (ix1 R)).trans ?_
  rw [show (FloatOps.ofBits (F := Ideal) .f32 0xFF800000#32) = (⊥ : EReal) from bottom_eq]
  exact congrArg ((Finset.univ : Finset (Fin 8192)).fold max (⊥ : EReal)) (funext fun T => congrArg S (Rows.lift_row rows_reduce R T))

theorem total_apply (E : FVec Ideal S8192x8192 .f32) (R : Fin 8192) : total E (ix1 R) = ∑ T : Fin 8192, E (ix2 R T) := by
  unfold total
  rw [hostReduceAdd_apply, Ideal.hostReduceAdd_single _ rows_reduce,
    show (constant S_ .f32 0x00000000#32 : FVec Ideal S_ .f32) (Shape.Idx.first h_S_) = 0 from Ideal.ofBits_zero_f32, zero_add]
  exact Finset.sum_congr rfl fun T _ => congrArg E (Rows.lift_row rows_reduce R T)

theorem spread_apply (x : FVec Ideal S8192 .f32) (R T : Fin 8192) : spread x (ix2 R T) = x (ix1 R) := by
  refine (broadcastInDim_apply _ _ _ (ix2 R T) (ix2 R (0 : Fin 1)) fun a => ?_).trans (broadcastInDim_apply _ _ _ _ (ix1 R) fun a => ?_)
  · match a with
    | ⟨0, _⟩ => rfl
    | ⟨1, _⟩ => rfl
  · match a with
    | ⟨0, _⟩ => rfl

theorem power_apply (S : FVec Ideal S8192x8192 .f32) (R T : Fin 8192) :
    power S (ix2 R T) = Ideal.exp (S (ix2 R T) - top S (ix1 R)) := by
  show Ideal.exp (S (ix2 R T) - spread (top S) (ix2 R T)) = _
  rw [spread_apply]

/-- **The result at one index.** -/
theorem attention_apply (R : Fin 8192) (x : Fin 128) :
    attention Q K V (ix2 R x)
      = ∑ T : Fin 8192, Ideal.div (Ideal.exp (score Q K (ix2 R T) - top (score Q K) (ix1 R)))
          (∑ T' : Fin 8192, Ideal.exp (score Q K (ix2 R T') - top (score Q K) (ix1 R))) * V (ix2 T x) := by
  refine (StackMember.dotGeneral_plain_apply (m := 8192) (n := 128) (k := 8192) none _ _ R x).trans (Finset.sum_congr rfl fun T _ => ?_)
  refine congrArg (fun s : EReal => s * V (ix2 T x)) ?_
  refine (hostDivf_apply _ _ (ix2 R T)).trans ?_
  rw [spread_apply, total_apply, power_apply]
  exact congrArg (Ideal.div _) (Finset.sum_congr rfl fun T' _ => power_apply _ R T')

end Cert.Attention

end
-- ==== Proof.Softmax.lean ====
/-
# Softmax on the extended reals

Two ways to weigh values by real scores `s`: the sums of `e^(s - 3)` first and one division at the end, or the weights
`e^(s - M) / Σ e^(s - M)` first. They agree for real scores whatever the values, infinities included, and whatever the real
`M`: every weight is a real, not below zero, and such a factor distributes over a sum of extended reals.
-/
module

public import Idealize.ShloMosaic.PureOps.Ideal.Laws
public import Mathlib.Analysis.SpecialFunctions.Exp

@[expose] public section

noncomputable section

namespace Cert.Softmax

open Idealize.ShloMosaic
open scoped BigOperators

variable {ι : Type*}

/-- A real factor, not below zero, distributes over a sum of extended reals. -/
theorem sum_mul_coe (t : Finset ι) (f : ι → EReal) {r : ℝ} (hr : 0 ≤ r) : (∑ j ∈ t, f j) * (r : EReal) = ∑ j ∈ t, f j * (r : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hr) (EReal.coe_ne_top r) _ _

/-- A sum of reals is a real. -/
theorem sum_coe (t : Finset ι) (f : ι → ℝ) : (∑ j ∈ t, (f j : EReal)) = ((∑ j ∈ t, f j : ℝ) : EReal) := by
  classical
  induction t using Finset.induction_on with
  | empty => simp
  | insert a t ha ih => rw [Finset.sum_insert ha, Finset.sum_insert ha, ih, EReal.coe_add]

variable [Fintype ι]

/-- Moving every score by the same amount leaves each weight as it is. -/
theorem weight_shift (s : ι → ℝ) (a b : ℝ) (j : ι) :
    Real.exp (s j - a) / ∑ i, Real.exp (s i - a) = Real.exp (s j - b) / ∑ i, Real.exp (s i - b) := by
  have key : ∀ i, Real.exp (s i - a) = Real.exp (s i - b) * Real.exp (b - a) := fun i => by
    rw [← Real.exp_add]; congr 1; ring
  simp only [key, ← Finset.sum_mul]
  exact mul_div_mul_right _ _ (Real.exp_ne_zero _)

theorem sum_exp_pos [Nonempty ι] (s : ι → ℝ) (a : ℝ) : 0 < ∑ i, Real.exp (s i - a) :=
  Finset.sum_pos (fun _ _ => Real.exp_pos _) Finset.univ_nonempty

/-- One weight, divided out on the extended reals. -/
theorem weight_eq [Nonempty ι] (s : ι → ℝ) (a : ℝ) (j : ι) :
    Ideal.div (Ideal.exp ((s j : EReal) - (a : EReal))) (∑ i, Ideal.exp ((s i : EReal) - (a : EReal)))
      = ((Real.exp (s j - a) / ∑ i, Real.exp (s i - a) : ℝ) : EReal) := by
  have e : ∀ i, Ideal.exp ((s i : EReal) - (a : EReal)) = ((Real.exp (s i - a) : ℝ) : EReal) := fun i => by
    rw [← EReal.coe_sub, Ideal.exp_coe]
  simp only [e]
  rw [sum_coe, Ideal.div_coe (sum_exp_pos s a).ne', ← EReal.coe_mul, mul_one_div]

/-- **The two ways agree.** -/
theorem softmax_eq [Nonempty ι] (s : ι → ℝ) (v : ι → EReal) (a b : ℝ) :
    Ideal.div (∑ j, Ideal.exp ((s j : EReal) - (a : EReal)) * v j) (∑ j, Ideal.exp ((s j : EReal) - (a : EReal)))
      = ∑ j, Ideal.div (Ideal.exp ((s j : EReal) - (b : EReal))) (∑ i, Ideal.exp ((s i : EReal) - (b : EReal))) * v j := by
  have e : ∀ i, Ideal.exp ((s i : EReal) - (a : EReal)) = ((Real.exp (s i - a) : ℝ) : EReal) := fun i => by
    rw [← EReal.coe_sub, Ideal.exp_coe]
  simp only [weight_eq s b]
  simp only [e]
  rw [sum_coe, Ideal.div_coe (sum_exp_pos s a).ne', sum_mul_coe _ _ (one_div_nonneg.mpr (sum_exp_pos s a).le)]
  refine Finset.sum_congr rfl fun j _ => ?_
  rw [mul_right_comm, ← EReal.coe_mul, mul_one_div, weight_shift s a b]

/-- The fold of `max` from `⊥` over finitely many reals, at least one, is a real. -/
theorem fold_max_coe [Nonempty ι] (s : ι → ℝ) : ∃ M : ℝ, (Finset.univ : Finset ι).fold max (⊥ : EReal) (fun j => (s j : EReal)) = (M : EReal) := by
  classical
  have h : ∀ t : Finset ι, t.fold max (⊥ : EReal) (fun j => (s j : EReal)) = ⊥ ∧ t = ∅
      ∨ ∃ M : ℝ, t.fold max (⊥ : EReal) (fun j => (s j : EReal)) = (M : EReal) := by
    intro t
    induction t using Finset.induction_on with
    | empty => exact Or.inl ⟨rfl, rfl⟩
    | insert a t ha ih =>
      right
      rw [Finset.fold_insert ha]
      rcases ih with ⟨h, -⟩ | ⟨M, h⟩
      · exact ⟨s a, by rw [h]; exact max_eq_left bot_le⟩
      · exact ⟨max (s a) M, by rw [h]; exact (EReal.coe_strictMono.monotone.map_max).symm⟩
  rcases h Finset.univ with ⟨-, h⟩ | h
  · exact absurd h Finset.univ_nonempty.ne_empty
  · exact h

end Cert.Softmax

end
-- ==== Proof.Value.lean ====
/-
# The kernel computes attention

Where queries and keys are finite, each device's result is its block of rows of the reference's.
-/
module

public import proofs.«01_k».proof.Defs
public import proofs.«01_k».proof.Proof.Arrays
public import proofs.«01_k».proof.Proof.Reference
public import proofs.«01_k».proof.Proof.Softmax

@[expose] public section

noncomputable section

namespace Cert.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
open Idealize.ShloMosaic.ValueIdx
open scoped BigOperators

/-- The rows of the whole array, by device and row of its block. -/
def rows : Fin 16 × Fin 512 ≃ Fin 8192 := finProdFinEquiv

/-- A row of a device's block is that row of the whole array. -/
theorem block_row {α : Type} (c : Fin 16) (v : (⟨2, ![8192, 128]⟩ : Shape).Idx → α) (r : Fin 512) (i : Fin 128) :
    Layout.block ⟨2, ![512, 128]⟩ ⟨2, ![8192, 128]⟩ 0 16 c v (by decide) (ix2 r i) = v (ix2 (rows (c, r)) i) := by
  refine congrArg v (funext fun a => Fin.ext ?_)
  match a with
  | ⟨0, _⟩ => show c.val * 512 + r.val = r.val + 512 * c.val; omega
  | ⟨1, _⟩ => rfl

/-- The slots of a device hold every device's block, each once. -/
theorem sum_slots (c : Dev nD) (f : Fin 16 → EReal) : ∑ j : Fin 16, f (org c j.val) = ∑ d, f d :=
  Function.Bijective.sum_comp (show Function.Bijective fun j : Fin 16 => (org c j.val : Fin 16) from by revert c; decide) f

/-- A sum over blocks and their rows is one over all rows. -/
theorem sum_rows (f : Fin 8192 → EReal) : ∑ d : Fin 16, ∑ k : Fin 512, f (rows (d, k)) = ∑ T, f T := by
  rw [← Fintype.sum_prod_type' (fun d k => f (rows (d, k)))]
  exact Equiv.sum_comp rows f

/-- Below `+∞` in absolute value, an extended real is a real. -/
theorem real_of_abs_lt {a : EReal} (h : max a (-a) < ⊤) : ∃ x : ℝ, a = (x : EReal) := by
  induction a using EReal.rec with
  | bot => simp at h
  | coe x => exact ⟨x, rfl⟩
  | top => simp at h

theorem infinity_eq : Ideal.ofBits .f32 0x7F800000#32 = (⊤ : EReal) := by
  simp [Ideal.ofBits, Ideal.ieee]

/-- The precondition at an index: query and key are reals. -/
theorem finite_of_pre [Cert.Pre_finite_qk_KernelIdeal.Facts] (q k v : FVec Ideal S512x128 .f32)
    (h : Cert.Pre_finite_qk_KernelIdeal.fn (F := Ideal) q k v = fun _ => 1#1) (y : S512x128.Idx) :
    (∃ x : ℝ, q y = (x : EReal)) ∧ ∃ x : ℝ, k y = (x : EReal) := by
  have e := congrFun h y
  have e' : BitVec.ofBool (decide (max (q y) (-(q y)) < Ideal.ofBits .f32 0x7F800000#32)) &&& BitVec.ofBool (decide (max (k y) (-(k y)) < Ideal.ofBits .f32 0x7F800000#32)) = 1#1 := by
    refine Eq.trans ?_ e
    rfl
  rw [infinity_eq] at e'
  have p : max (q y) (-(q y)) < ⊤ ∧ max (k y) (-(k y)) < ⊤ := by
    by_cases h1 : max (q y) (-(q y)) < ⊤ <;> by_cases h2 : max (k y) (-(k y)) < ⊤ <;>
      simp only [h1, h2, decide_true, decide_false] at e' <;> first | exact ⟨h1, h2⟩ | exact absurd e' (by decide)
  exact ⟨real_of_abs_lt p.1, real_of_abs_lt p.2⟩

section

variable (mI : (ℓ : Loc nD τ sig) → Buf (Elt Ideal) ℓ)
variable (Q K V : FVec Ideal ⟨2, ![8192, 128]⟩ .f32)

/-- The devices' memories hold the blocks of three arrays. -/
structure Holds : Prop where
  q : ∀ c : Dev nD, mI ((c : Thread nD τ).loc main_arg0) = Layout.block ⟨2, ![512, 128]⟩ ⟨2, ![8192, 128]⟩ 0 16 c Q
  k : ∀ c : Dev nD, mI ((c : Thread nD τ).loc main_arg1) = Layout.block ⟨2, ![512, 128]⟩ ⟨2, ![8192, 128]⟩ 0 16 c K
  v : ∀ c : Dev nD, mI ((c : Thread nD τ).loc main_arg2) = Layout.block ⟨2, ![512, 128]⟩ ⟨2, ![8192, 128]⟩ 0 16 c V

variable {mI Q K V} (H : Holds mI Q K V)
include H

/-- The weight in slot `j`, of key `k`, is `e` to the reference's score less three. -/
theorem prob_eq (c : Dev nD) (r : Fin 512) (j : Fin 16) (k : Fin 512) :
    prob (d86 mI c) (ks mI c j) (ix2 r k)
      = Ideal.exp (Cert.Attention.score Q K (ix2 (rows (c, r)) (rows (org c j.val, k))) - ((3 : ℝ) : EReal)) := by
  rw [prob_apply, Cert.Attention.score_apply]
  refine congrArg (fun s : EReal => Ideal.exp (s * _ - _)) (Finset.sum_congr rfl fun i _ => ?_)
  rw [q_apply, k_apply, H.q, H.k, block_row, block_row]

theorem val_eq (c : Dev nD) (j : Fin 16) (k : Fin 512) (x : Fin 128) :
    vs mI c j (ix4 (0 : Fin 1) (0 : Fin 1) k x) = V (ix2 (rows (org c j.val, k)) x) := by
  rw [v_apply, H.v, block_row]

/-- The kernel's result over all the keys. -/
theorem out_rows (c : Dev nD) (r : Fin 512) (x : Fin 128) :
    outv mI c (ix2 r x)
      = Ideal.div (∑ T : Fin 8192, Ideal.exp (Cert.Attention.score Q K (ix2 (rows (c, r)) T) - ((3 : ℝ) : EReal)) * V (ix2 T x))
          (∑ T : Fin 8192, Ideal.exp (Cert.Attention.score Q K (ix2 (rows (c, r)) T) - ((3 : ℝ) : EReal))) := by
  rw [out_apply]
  simp only [prob_eq H, val_eq H]
  rw [sum_slots c (fun d => ∑ k : Fin 512, Ideal.exp (Cert.Attention.score Q K (ix2 (rows (c, r)) (rows (d, k))) - ((3 : ℝ) : EReal)) * V (ix2 (rows (d, k)) x)),
    sum_slots c (fun d => ∑ k : Fin 512, Ideal.exp (Cert.Attention.score Q K (ix2 (rows (c, r)) (rows (d, k))) - ((3 : ℝ) : EReal))),
    sum_rows (fun T => Ideal.exp (Cert.Attention.score Q K (ix2 (rows (c, r)) T) - ((3 : ℝ) : EReal)) * V (ix2 T x)),
    sum_rows (fun T => Ideal.exp (Cert.Attention.score Q K (ix2 (rows (c, r)) T) - ((3 : ℝ) : EReal)))]

omit H in
/-- A score of real queries and keys is a real. -/
theorem score_real (hQ : ∀ R i, ∃ x : ℝ, Q (ix2 R i) = (x : EReal)) (hK : ∀ T i, ∃ x : ℝ, K (ix2 T i) = (x : EReal)) :
    ∃ s : Fin 8192 → Fin 8192 → ℝ, ∀ R T, Cert.Attention.score Q K (ix2 R T) = (s R T : EReal) := by
  choose q hq using hQ
  choose k hk using hK
  refine ⟨fun R T => (∑ i, q R i * k T i) * (Real.sqrt 128)⁻¹, fun R T => ?_⟩
  rw [Cert.Attention.score_apply, EReal.coe_mul, ← Cert.Softmax.sum_coe]
  refine congrArg (fun s : EReal => s * _) (Finset.sum_congr rfl fun i _ => ?_)
  rw [hq, hk, EReal.coe_mul]

/-- **Each device's result is its rows of the attention of the whole arrays.** -/
theorem out_eq_attention (hQ : ∀ R i, ∃ x : ℝ, Q (ix2 R i) = (x : EReal)) (hK : ∀ T i, ∃ x : ℝ, K (ix2 T i) = (x : EReal)) (c : Dev nD) :
    (outv mI c : FVec Ideal S512x128 .f32) = Layout.block ⟨2, ![512, 128]⟩ ⟨2, ![8192, 128]⟩ 0 16 c (Cert.Attention.attention Q K V) := by
  obtain ⟨s, hs⟩ := score_real hQ hK
  funext y
  obtain ⟨r, x, rfl⟩ : ∃ (r : Fin 512) (x : Fin 128), y = ix2 r x := ⟨y 0, y 1, eq_ix2 y⟩
  rw [block_row, Cert.Attention.attention_apply, out_rows H, Cert.Attention.top_apply]
  simp only [hs]
  obtain ⟨M, hM⟩ := Cert.Softmax.fold_max_coe (s (rows (c, r)))
  rw [hM]
  exact Cert.Softmax.softmax_eq (s (rows (c, r))) (fun T => V (ix2 T x)) 3 M

end

/-- **The kernel and the reference end with the same result.** -/
theorem algebraic [Cert.Pre_finite_qk_KernelIdeal.Facts] : Cert.algebraic_KernelIdeal_ReferenceIdeal_pre_finite_qk_KernelIdeal := by
  intro m g m' g' hpre hm
  have H : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) :=
    ⟨fun c => (hm c).1, fun c => (hm c).2.1, fun c => (hm c).2.2⟩
  have fin := fun (c : Dev nD) (r : Fin 512) (i : Fin 128) => finite_of_pre _ _ _ (hpre c) (ix2 r i)
  have hQ : ∀ (R : Fin 8192) (i : Fin 128), ∃ x : ℝ, (m' (((0 : Dev Cert.ReferenceIdeal.nD).tc : Thread Cert.ReferenceIdeal.nD Cert.ReferenceIdeal.τ).loc Cert.ReferenceIdeal.main_arg0) : FVec Ideal ⟨2, ![8192, 128]⟩ .f32) (ix2 R i) = (x : EReal) := fun R i => by
    obtain ⟨⟨c, r⟩, rfl⟩ := rows.surjective R
    have h := (fin c r i).1
    rw [H.q, block_row] at h
    exact h
  have hK : ∀ (R : Fin 8192) (i : Fin 128), ∃ x : ℝ, (m' (((0 : Dev Cert.ReferenceIdeal.nD).tc : Thread Cert.ReferenceIdeal.nD Cert.ReferenceIdeal.τ).loc Cert.ReferenceIdeal.main_arg1) : FVec Ideal ⟨2, ![8192, 128]⟩ .f32) (ix2 R i) = (x : EReal) := fun R i => by
    obtain ⟨⟨c, r⟩, rfl⟩ := rows.surjective R
    have h := (fin c r i).2
    rw [H.k, block_row] at h
    exact h
  refine ⟨_, (θ_run _ _ _).mono (fun r h c => ⟨?_, ?_, ?_, ?_⟩) (run_main m g), (θ_run _ _ _).mono (fun r h => h 0) (Cert.Attention.run m' g')⟩
  · exact ((h.1 c (3 : Fin 4)).trans (finalA_out m g c)).trans (out_eq_attention H hQ hK c)
  · exact (h.1 c (0 : Fin 4)).trans (finalA_q m g c)
  · exact (h.1 c (1 : Fin 4)).trans (finalA_k m g c)
  · exact (h.1 c (2 : Fin 4)).trans (finalA_v m g c)

end Cert.RingAttn

end
-- ==== Proof.lean ====
/-
# The kernel's claims, together

The runs of the kernel, as written and with the scale named, and of the reference end; the name stands for the literal; and the
kernel and the reference end with the same result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

@[expose] public section

noncomputable section

namespace Cert.Proof

/-- The precondition's one shape fact, over a device's blocks, -/
theorem facts_block : Cert.Pre_finite_qk_KernelIdeal.Facts := ⟨by decide⟩
/-- and over the whole arrays. -/
theorem facts_whole : Cert.Pre_finite_qk_ReferenceIdeal.Facts := ⟨by decide⟩

theorem claim : Cert.Claim :=
  ⟨Cert.Kernel.Gen.facts, Cert.KernelIdeal.Gen.facts, Cert.ReferenceIdeal.Gen.facts, facts_block, facts_whole,
    Cert.RingAttn.frame_kernel, Cert.RingAttn.frame_ideal, @Cert.RingAttn.frame_ideal_pre facts_block, Cert.RingAttn.frame_reference,
    @Cert.RingAttn.frame_reference_pre facts_whole, Cert.RingAttn.preserves, @Cert.RingAttn.algebraic facts_block⟩

end Cert.Proof

end
